-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "cap_scale" .f32 0x3AE7B46A#32 (((Real.sqrt 128)⁻¹ * (1 / 50) : ℝ) : EReal)
  ∧ IdealRules.named_const.Statement Cert.KernelIdeal.κ "exp2_gain" .f32 0x429044FE#32 ((50 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S8x2048x1024 : Shape := ⟨3, ![8, 2048, 1024]⟩
abbrev S8x16x1x32 : Shape := ⟨4, ![8, 16, 1, 32]⟩
abbrev S8x16x1x8 : Shape := ⟨4, ![8, 16, 1, 8]⟩
abbrev S1x128x4096 : Shape := ⟨3, ![1, 128, 4096]⟩
abbrev S1x128x1024 : Shape := ⟨3, ![1, 128, 1024]⟩
abbrev S1x1x1x32 : Shape := ⟨4, ![1, 1, 1, 32]⟩
abbrev S1x1x1x8 : Shape := ⟨4, ![1, 1, 1, 8]⟩
abbrev S8x512x128 : Shape := ⟨3, ![8, 512, 128]⟩
abbrev S16x8x128x128 : Shape := ⟨4, ![16, 8, 128, 128]⟩
abbrev S8x512 : Shape := ⟨2, ![8, 512]⟩
abbrev S128x512 : Shape := ⟨2, ![128, 512]⟩
abbrev S1x128 : Shape := ⟨2, ![1, 128]⟩
abbrev S1x128x128 : Shape := ⟨3, ![1, 128, 128]⟩
abbrev S128x128 : Shape := ⟨2, ![128, 128]⟩
abbrev S1 : Shape := ⟨1, ![1]⟩
abbrev S1x1x1 : Shape := ⟨3, ![1, 1, 1]⟩
abbrev S1x1 : Shape := ⟨2, ![1, 1]⟩
abbrev S256x1 : Shape := ⟨2, ![256, 1]⟩
abbrev S1x1x128x128 : Shape := ⟨4, ![1, 1, 128, 128]⟩
abbrev S1x512 : Shape := ⟨2, ![1, 512]⟩
abbrev S1x8 : Shape := ⟨2, ![1, 8]⟩
abbrev S1x32 : Shape := ⟨2, ![1, 32]⟩
abbrev S1x512x128 : Shape := ⟨3, ![1, 512, 128]⟩
abbrev S512x128 : Shape := ⟨2, ![512, 128]⟩
abbrev S16x8x512 : Shape := ⟨3, ![16, 8, 512]⟩
abbrev S512 : Shape := ⟨1, ![512]⟩
abbrev S256x512 : Shape := ⟨2, ![256, 512]⟩

abbrev nBuf : Space → Nat
  | .hbm => 10
  | .vmem => 27
  | .smem => 0
  | _ => 0

abbrev bufTy : (tb : Table) → Fin (tcTables nBuf tb) → BufTy
  | .hbm, ⟨0, _⟩ => ⟨S8x2048x4096, .bf16⟩
  | .hbm, ⟨1, _⟩ => ⟨S8x2048x1024, .bf16⟩
  | .hbm, ⟨2, _⟩ => ⟨S8x2048x1024, .bf16⟩
  | .hbm, ⟨3, _⟩ => ⟨S8x2048x4096, .bf16⟩
  | .hbm, ⟨4, _⟩ => ⟨S8x2048x4096, .fp8e4m3⟩
  | .hbm, ⟨5, _⟩ => ⟨S8x16x1x32, .f32⟩
  | .hbm, ⟨6, _⟩ => ⟨S8x2048x1024, .fp8e4m3⟩
  | .hbm, ⟨7, _⟩ => ⟨S8x16x1x8, .f32⟩
  | .hbm, ⟨8, _⟩ => ⟨S8x2048x1024, .fp8e4m3⟩
  | .hbm, ⟨9, _⟩ => ⟨S8x16x1x8, .f32⟩
  | .local _ .vmem, ⟨0, _⟩ => ⟨S1x128x4096, .bf16⟩
  | .local _ .vmem, ⟨1, _⟩ => ⟨S1x128x4096, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x4096, .bf16⟩
  | .local _ .vmem, ⟨7, _⟩ => ⟨S1x128x4096, .bf16⟩
  | .local _ .vmem, ⟨8, _⟩ => ⟨S1x128x4096, .fp8e4m3⟩
  | .local _ .vmem, ⟨9, _⟩ => ⟨S1x128x4096, .fp8e4m3⟩
  | .local _ .vmem, ⟨10, _⟩ => ⟨S1x1x1x32, .f32⟩
  | .local _ .vmem, ⟨11, _⟩ => ⟨S1x1x1x32, .f32⟩
  | .local _ .vmem, ⟨12, _⟩ => ⟨S1x128x1024, .fp8e4m3⟩
  | .local _ .vmem, ⟨13, _⟩ => ⟨S1x128x1024, .fp8e4m3⟩
  | .local _ .vmem, ⟨14, _⟩ => ⟨S1x1x1x8, .f32⟩
  | .local _ .vmem, ⟨15, _⟩ => ⟨S1x1x1x8, .f32⟩
  | .local _ .vmem, ⟨16, _⟩ => ⟨S1x128x1024, .fp8e4m3⟩
  | .local _ .vmem, ⟨17, _⟩ => ⟨S1x128x1024, .fp8e4m3⟩
  | .local _ .vmem, ⟨18, _⟩ => ⟨S1x1x1x8, .f32⟩
  | .local _ .vmem, ⟨19, _⟩ => ⟨S1x1x1x8, .f32⟩
  | .local _ .vmem, ⟨20, _⟩ => ⟨S8x512x128, .fp8e4m3⟩
  | .local _ .vmem, ⟨21, _⟩ => ⟨S16x8x128x128, .fp8e4m3⟩
  | .local _ .vmem, ⟨22, _⟩ => ⟨S16x8x128x128, .fp8e4m3⟩
  | .local _ .vmem, ⟨23, _⟩ => ⟨S8x512, .f32⟩
  | .local _ .vmem, ⟨24, _⟩ => ⟨S128x512, .f32⟩
  | .local _ .vmem, ⟨25, _⟩ => ⟨S128x512, .f32⟩
  | .local _ .vmem, ⟨26, _⟩ => ⟨S128x512, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def k0_off1 (i : grid0.Coords) : Fin 4 → Nat :=
  let arg1 : BitVec 32 := BitVec.ofNat 32 (i 1).val
  let v62 : Index := Scalar.indexCast arg1
  let c0_18 : Index := 0#32
  let c0_19 : Index := 0#32
  let c0_20 : Index := 0#32
  ![v62.toNat, 0, 0, 0]
def k0_off2 (i : grid0.Coords) (c0_i32_21 : BitVec 32) : Fin 2 → Nat :=
  let arg1 : BitVec 32 := BitVec.ofNat 32 (i 1).val
  let c8_i32 : BitVec 32 := 8#32
  let v68 : BitVec 32 := Scalar.muli arg1 c8_i32
  let v69 : BitVec 32 := Scalar.addi v68 c0_i32_21
  let v70 : Index := Scalar.indexCast v69
  let c0_22 : Index := 0#32
  ![v70.toNat, 0]
def k0_off3 (i : grid0.Coords) : Fin 4 → Nat :=
  let arg1 : BitVec 32 := BitVec.ofNat 32 (i 1).val
  let v216 : Index := Scalar.indexCast arg1
  let c1 : Index := 1#32
  let c0_80 : Index := 0#32
  let c0_81 : Index := 0#32
  ![v216.toNat, 1, 0, 0]
def k0_off4 (i : grid0.Coords) : Fin 4 → Nat :=
  let arg1 : BitVec 32 := BitVec.ofNat 32 (i 1).val
  let v370 : Index := Scalar.indexCast arg1
  let c2 : Index := 2#32
  let c0_142 : Index := 0#32
  let c0_143 : Index := 0#32
  ![v370.toNat, 2, 0, 0]
def k0_off5 (i : grid0.Coords) : Fin 4 → Nat :=
  let arg1 : BitVec 32 := BitVec.ofNat 32 (i 1).val
  let v524 : Index := Scalar.indexCast arg1
  let c3 : Index := 3#32
  let c0_203 : Index := 0#32
  let c0_204 : Index := 0#32
  ![v524.toNat, 3, 0, 0]
def k0_off6 (i : grid0.Coords) : Fin 4 → Nat :=
  let arg1 : BitVec 32 := BitVec.ofNat 32 (i 1).val
  let v678 : Index := Scalar.indexCast arg1
  let c4 : Index := 4#32
  let c0_264 : Index := 0#32
  let c0_265 : Index := 0#32
  ![v678.toNat, 4, 0, 0]
def k0_off7 (i : grid0.Coords) : Fin 4 → Nat :=
  let arg1 : BitVec 32 := BitVec.ofNat 32 (i 1).val
  let v832 : Index := Scalar.indexCast arg1
  let c5 : Index := 5#32
  let c0_325 : Index := 0#32
  let c0_326 : Index := 0#32
  ![v832.toNat, 5, 0, 0]
def k0_off8 (i : grid0.Coords) : Fin 4 → Nat :=
  let arg1 : BitVec 32 := BitVec.ofNat 32 (i 1).val
  let v986 : Index := Scalar.indexCast arg1
  let c6 : Index := 6#32
  let c0_386 : Index := 0#32
  let c0_387 : Index := 0#32
  ![v986.toNat, 6, 0, 0]
def k0_off9 (i : grid0.Coords) : Fin 4 → Nat :=
  let arg1 : BitVec 32 := BitVec.ofNat 32 (i 1).val
  let v1140 : Index := Scalar.indexCast arg1
  let c7 : Index := 7#32
  let c0_447 : Index := 0#32
  let c0_448 : Index := 0#32
  ![v1140.toNat, 7, 0, 0]
@[reducible] def k0_t1_loop : Scf.Loop 32 :=
  let c0_i32_1480 : BitVec 32 := 0#32
  let c8_i32_1481 : BitVec 32 := 8#32
  let v3635 : BitVec 32 := Scalar.addi c0_i32_1480 c8_i32_1481
  let c1_i32_1482 : BitVec 32 := 1#32
  ⟨c0_i32_1480, v3635, c1_i32_1482⟩
def k0_off10 (k0_t1 : Fin k0_t1_loop.trips) : Fin 3 → Nat :=
  let c0_i32_1480 : BitVec 32 := 0#32
  let c1_i32_1482 : BitVec 32 := 1#32
  let arg19 : BitVec 32 := Scf.iv c0_i32_1480 c1_i32_1482 k0_t1
  let v3636 : Index := Scalar.indexCast arg19
  let c0_1484 : Index := 0#32
  let c0_1485 : Index := 0#32
  ![v3636.toNat, 0, 0]
def k0_off11 (k0_t1 : Fin k0_t1_loop.trips) : Fin 2 → Nat :=
  let c0_i32_1480 : BitVec 32 := 0#32
  let c1_i32_1482 : BitVec 32 := 1#32
  let arg19 : BitVec 32 := Scf.iv c0_i32_1480 c1_i32_1482 k0_t1
  let v3639 : Index := Scalar.indexCast arg19
  let c0_1486 : Index := 0#32
  ![v3639.toNat, 0]
@[reducible] def k0_t2_loop (i : grid0.Coords) : Scf.Loop 32 :=
  let c0_i32_1488 : BitVec 32 := 0#32
  let arg1 : BitVec 32 := BitVec.ofNat 32 (i 1).val
  let v3642 : BitVec 32 := Scalar.subi arg1 c0_i32_1488
  let c1_i32_1489 : BitVec 32 := 1#32
  let v3644 : BitVec 32 := Scalar.divsi v3642 c1_i32_1489
  let v3645 : BitVec 32 := Scalar.muli v3644 c1_i32_1489
  let v3646 : BitVec 32 := Scalar.addi c0_i32_1488 v3645
  let c1_i32_1490 : BitVec 32 := 1#32
  ⟨c0_i32_1488, v3646, c1_i32_1490⟩
def k0_off12 (i : grid0.Coords) (k0_t1 : Fin k0_t1_loop.trips) (k0_t2 : Fin (k0_t2_loop i).trips) : Fin 4 → Nat :=
  let c0_i32_1488 : BitVec 32 := 0#32
  let c1_i32_1490 : BitVec 32 := 1#32
  let arg20 : BitVec 32 := Scf.iv c0_i32_1488 c1_i32_1490 k0_t2
  let v3816 : Index := Scalar.indexCast arg20
  let c0_i32_1480 : BitVec 32 := 0#32
  let c1_i32_1482 : BitVec 32 := 1#32
  let arg19 : BitVec 32 := Scf.iv c0_i32_1480 c1_i32_1482 k0_t1
  let v3817 : Index := Scalar.indexCast arg19
  let c0_1559 : Index := 0#32
  let c0_1560 : Index := 0#32
  ![v3816.toNat, v3817.toNat, 0, 0]
def k0_off13 (i : grid0.Coords) (k0_t1 : Fin k0_t1_loop.trips) (k0_t2 : Fin (k0_t2_loop i).trips) : Fin 2 → Nat :=
  let c0_i32_1488 : BitVec 32 := 0#32
  let c1_i32_1490 : BitVec 32 := 1#32
  let arg20 : BitVec 32 := Scf.iv c0_i32_1488 c1_i32_1490 k0_t2
  let c8_i32_1563 : BitVec 32 := 8#32
  let v3823 : BitVec 32 := Scalar.muli arg20 c8_i32_1563
  let c0_i32_1480 : BitVec 32 := 0#32
  let c1_i32_1482 : BitVec 32 := 1#32
  let arg19 : BitVec 32 := Scf.iv c0_i32_1480 c1_i32_1482 k0_t1
  let v3824 : BitVec 32 := Scalar.addi v3823 arg19
  let v3825 : Index := Scalar.indexCast v3824
  let c0_1564 : Index := 0#32
  ![v3825.toNat, 0]
@[reducible] def k0_t3_loop (i : grid0.Coords) : Scf.Loop 32 :=
  let c0_i32_1488 : BitVec 32 := 0#32
  let arg1 : BitVec 32 := BitVec.ofNat 32 (i 1).val
  let v3642 : BitVec 32 := Scalar.subi arg1 c0_i32_1488
  let c1_i32_1489 : BitVec 32 := 1#32
  let v3644 : BitVec 32 := Scalar.divsi v3642 c1_i32_1489
  let v3645 : BitVec 32 := Scalar.muli v3644 c1_i32_1489
  let v3646 : BitVec 32 := Scalar.addi c0_i32_1488 v3645
  let v3643 : BitVec 32 := Scalar.addi c0_i32_1488 v3642
  let c1_i32_1491 : BitVec 32 := 1#32
  ⟨v3646, v3643, c1_i32_1491⟩
def k0_off14 (i : grid0.Coords) (k0_t1 : Fin k0_t1_loop.trips) (k0_t3 : Fin (k0_t3_loop i).trips) : Fin 4 → Nat :=
  let c0_i32_1488 : BitVec 32 := 0#32
  let arg1 : BitVec 32 := BitVec.ofNat 32 (i 1).val
  let v3642 : BitVec 32 := Scalar.subi arg1 c0_i32_1488
  let c1_i32_1489 : BitVec 32 := 1#32
  let v3644 : BitVec 32 := Scalar.divsi v3642 c1_i32_1489
  let v3645 : BitVec 32 := Scalar.muli v3644 c1_i32_1489
  let v3646 : BitVec 32 := Scalar.addi c0_i32_1488 v3645
  let c1_i32_1491 : BitVec 32 := 1#32
  let arg20 : BitVec 32 := Scf.iv v3646 c1_i32_1491 k0_t3
  let v3816 : Index := Scalar.indexCast arg20
  let c0_i32_1480 : BitVec 32 := 0#32
  let c1_i32_1482 : BitVec 32 := 1#32
  let arg19 : BitVec 32 := Scf.iv c0_i32_1480 c1_i32_1482 k0_t1
  let v3817 : Index := Scalar.indexCast arg19
  let c0_1559 : Index := 0#32
  let c0_1560 : Index := 0#32
  ![v3816.toNat, v3817.toNat, 0, 0]
def k0_off15 (i : grid0.Coords) (k0_t1 : Fin k0_t1_loop.trips) (k0_t3 : Fin (k0_t3_loop i).trips) : Fin 2 → Nat :=
  let c0_i32_1488 : BitVec 32 := 0#32
  let arg1 : BitVec 32 := BitVec.ofNat 32 (i 1).val
  let v3642 : BitVec 32 := Scalar.subi arg1 c0_i32_1488
  let c1_i32_1489 : BitVec 32 := 1#32
  let v3644 : BitVec 32 := Scalar.divsi v3642 c1_i32_1489
  let v3645 : BitVec 32 := Scalar.muli v3644 c1_i32_1489
  let v3646 : BitVec 32 := Scalar.addi c0_i32_1488 v3645
  let c1_i32_1491 : BitVec 32 := 1#32
  let arg20 : BitVec 32 := Scf.iv v3646 c1_i32_1491 k0_t3
  let c8_i32_1563 : BitVec 32 := 8#32
  let v3823 : BitVec 32 := Scalar.muli arg20 c8_i32_1563
  let c0_i32_1480 : BitVec 32 := 0#32
  let c1_i32_1482 : BitVec 32 := 1#32
  let arg19 : BitVec 32 := Scf.iv c0_i32_1480 c1_i32_1482 k0_t1
  let v3824 : BitVec 32 := Scalar.addi v3823 arg19
  let v3825 : Index := Scalar.indexCast v3824
  let c0_1564 : Index := 0#32
  ![v3825.toNat, 0]
def k0_off16 (i : grid0.Coords) (k0_t1 : Fin k0_t1_loop.trips) : Fin 4 → Nat :=
  let arg1 : BitVec 32 := BitVec.ofNat 32 (i 1).val
  let v3649 : Index := Scalar.indexCast arg1
  let c0_i32_1480 : BitVec 32 := 0#32
  let c1_i32_1482 : BitVec 32 := 1#32
  let arg19 : BitVec 32 := Scf.iv c0_i32_1480 c1_i32_1482 k0_t1
  let v3650 : Index := Scalar.indexCast arg19
  let c0_1492 : Index := 0#32
  let c0_1493 : Index := 0#32
  ![v3649.toNat, v3650.toNat, 0, 0]
def k0_off17 (i : grid0.Coords) (k0_t1 : Fin k0_t1_loop.trips) : Fin 2 → Nat :=
  let arg1 : BitVec 32 := BitVec.ofNat 32 (i 1).val
  let c8_i32_1497 : BitVec 32 := 8#32
  let v3658 : BitVec 32 := Scalar.muli arg1 c8_i32_1497
  let c0_i32_1480 : BitVec 32 := 0#32
  let c1_i32_1482 : BitVec 32 := 1#32
  let arg19 : BitVec 32 := Scf.iv c0_i32_1480 c1_i32_1482 k0_t1
  let v3659 : BitVec 32 := Scalar.addi v3658 arg19
  let v3660 : Index := Scalar.indexCast v3659
  let c0_1498 : Index := 0#32
  ![v3660.toNat, 0]
@[reducible] def k0_t4_loop (i : grid0.Coords) : Scf.Loop 32 :=
  let c0_i32_1520 : BitVec 32 := 0#32
  let arg1 : BitVec 32 := BitVec.ofNat 32 (i 1).val
  let v3718 : BitVec 32 := Scalar.subi arg1 c0_i32_1520
  let c1_i32_1521 : BitVec 32 := 1#32
  let v3720 : BitVec 32 := Scalar.divsi v3718 c1_i32_1521
  let v3721 : BitVec 32 := Scalar.muli v3720 c1_i32_1521
  let v3722 : BitVec 32 := Scalar.addi c0_i32_1520 v3721
  let c1_i32_1522 : BitVec 32 := 1#32
  ⟨c0_i32_1520, v3722, c1_i32_1522⟩
def k0_off18 (i : grid0.Coords) (k0_t1 : Fin k0_t1_loop.trips) (k0_t4 : Fin (k0_t4_loop i).trips) : Fin 4 → Nat :=
  let c0_i32_1520 : BitVec 32 := 0#32
  let c1_i32_1522 : BitVec 32 := 1#32
  let arg20 : BitVec 32 := Scf.iv c0_i32_1520 c1_i32_1522 k0_t4
  let v3816 : Index := Scalar.indexCast arg20
  let c0_i32_1480 : BitVec 32 := 0#32
  let c1_i32_1482 : BitVec 32 := 1#32
  let arg19 : BitVec 32 := Scf.iv c0_i32_1480 c1_i32_1482 k0_t1
  let v3817 : Index := Scalar.indexCast arg19
  let c0_1559 : Index := 0#32
  let c0_1560 : Index := 0#32
  ![v3816.toNat, v3817.toNat, 0, 0]
def k0_off19 (i : grid0.Coords) (k0_t1 : Fin k0_t1_loop.trips) (k0_t4 : Fin (k0_t4_loop i).trips) : Fin 2 → Nat :=
  let c0_i32_1520 : BitVec 32 := 0#32
  let c1_i32_1522 : BitVec 32 := 1#32
  let arg20 : BitVec 32 := Scf.iv c0_i32_1520 c1_i32_1522 k0_t4
  let c8_i32_1562 : BitVec 32 := 8#32
  let v3821 : BitVec 32 := Scalar.muli arg20 c8_i32_1562
  let c0_i32_1480 : BitVec 32 := 0#32
  let c1_i32_1482 : BitVec 32 := 1#32
  let arg19 : BitVec 32 := Scf.iv c0_i32_1480 c1_i32_1482 k0_t1
  let v3822 : BitVec 32 := Scalar.addi v3821 arg19
  let v3823 : Index := Scalar.indexCast v3822
  let c0_1563 : Index := 0#32
  ![v3823.toNat, 0]
@[reducible] def k0_t5_loop (i : grid0.Coords) : Scf.Loop 32 :=
  let c0_i32_1520 : BitVec 32 := 0#32
  let arg1 : BitVec 32 := BitVec.ofNat 32 (i 1).val
  let v3718 : BitVec 32 := Scalar.subi arg1 c0_i32_1520
  let c1_i32_1521 : BitVec 32 := 1#32
  let v3720 : BitVec 32 := Scalar.divsi v3718 c1_i32_1521
  let v3721 : BitVec 32 := Scalar.muli v3720 c1_i32_1521
  let v3722 : BitVec 32 := Scalar.addi c0_i32_1520 v3721
  let v3719 : BitVec 32 := Scalar.addi c0_i32_1520 v3718
  let c1_i32_1523 : BitVec 32 := 1#32
  ⟨v3722, v3719, c1_i32_1523⟩
def k0_off20 (i : grid0.Coords) (k0_t1 : Fin k0_t1_loop.trips) (k0_t5 : Fin (k0_t5_loop i).trips) : Fin 4 → Nat :=
  let c0_i32_1520 : BitVec 32 := 0#32
  let arg1 : BitVec 32 := BitVec.ofNat 32 (i 1).val
  let v3718 : BitVec 32 := Scalar.subi arg1 c0_i32_1520
  let c1_i32_1521 : BitVec 32 := 1#32
  let v3720 : BitVec 32 := Scalar.divsi v3718 c1_i32_1521
  let v3721 : BitVec 32 := Scalar.muli v3720 c1_i32_1521
  let v3722 : BitVec 32 := Scalar.addi c0_i32_1520 v3721
  let c1_i32_1523 : BitVec 32 := 1#32
  let arg20 : BitVec 32 := Scf.iv v3722 c1_i32_1523 k0_t5
  let v3816 : Index := Scalar.indexCast arg20
  let c0_i32_1480 : BitVec 32 := 0#32
  let c1_i32_1482 : BitVec 32 := 1#32
  let arg19 : BitVec 32 := Scf.iv c0_i32_1480 c1_i32_1482 k0_t1
  let v3817 : Index := Scalar.indexCast arg19
  let c0_1559 : Index := 0#32
  let c0_1560 : Index := 0#32
  ![v3816.toNat, v3817.toNat, 0, 0]
def k0_off21 (i : grid0.Coords) (k0_t1 : Fin k0_t1_loop.trips) (k0_t5 : Fin (k0_t5_loop i).trips) : Fin 2 → Nat :=
  let c0_i32_1520 : BitVec 32 := 0#32
  let arg1 : BitVec 32 := BitVec.ofNat 32 (i 1).val
  let v3718 : BitVec 32 := Scalar.subi arg1 c0_i32_1520
  let c1_i32_1521 : BitVec 32 := 1#32
  let v3720 : BitVec 32 := Scalar.divsi v3718 c1_i32_1521
  let v3721 : BitVec 32 := Scalar.muli v3720 c1_i32_1521
  let v3722 : BitVec 32 := Scalar.addi c0_i32_1520 v3721
  let c1_i32_1523 : BitVec 32 := 1#32
  let arg20 : BitVec 32 := Scf.iv v3722 c1_i32_1523 k0_t5
  let c8_i32_1562 : BitVec 32 := 8#32
  let v3821 : BitVec 32 := Scalar.muli arg20 c8_i32_1562
  let c0_i32_1480 : BitVec 32 := 0#32
  let c1_i32_1482 : BitVec 32 := 1#32
  let arg19 : BitVec 32 := Scf.iv c0_i32_1480 c1_i32_1482 k0_t1
  let v3822 : BitVec 32 := Scalar.addi v3821 arg19
  let v3823 : Index := Scalar.indexCast v3822
  let c0_1563 : Index := 0#32
  ![v3823.toNat, 0]
def k0_mult1 (k0_t1 : Fin k0_t1_loop.trips) : BitVec 32 :=
  let c0_i32_1480 : BitVec 32 := 0#32
  let c1_i32_1482 : BitVec 32 := 1#32
  let arg19 : BitVec 32 := Scf.iv c0_i32_1480 c1_i32_1482 k0_t1
  let c512_i32 : BitVec 32 := 512#32
  let v3776 : BitVec 32 := Scalar.muli arg19 c512_i32
  let c0_i32_1546 : BitVec 32 := 0#32
  let v3777 : BitVec 32 := Scalar.addi v3776 c0_i32_1546
  v3777
def k0_off22 (k0_t1 : Fin k0_t1_loop.trips) (c0_i32_1546 : BitVec 32) : Fin 3 → Nat :=
  let c0_1547 : Index := 0#32
  let c0_1548 : Index := 0#32
  let c0_i32_1480 : BitVec 32 := 0#32
  let c1_i32_1482 : BitVec 32 := 1#32
  let arg19 : BitVec 32 := Scf.iv c0_i32_1480 c1_i32_1482 k0_t1
  let c512_i32 : BitVec 32 := 512#32
  let v3776 : BitVec 32 := Scalar.muli arg19 c512_i32
  let v3777 : BitVec 32 := Scalar.addi v3776 c0_i32_1546
  let v3778 : BitVec 32 := v3777
  let v3782 : Index := Scalar.indexCast v3778
  ![0, 0, v3782.toNat]
def k0_mult2 (k0_t1 : Fin k0_t1_loop.trips) : BitVec 32 :=
  let c0_i32_1480 : BitVec 32 := 0#32
  let c1_i32_1482 : BitVec 32 := 1#32
  let arg19 : BitVec 32 := Scf.iv c0_i32_1480 c1_i32_1482 k0_t1
  let c512_i32_1549 : BitVec 32 := 512#32
  let v3786 : BitVec 32 := Scalar.muli arg19 c512_i32_1549
  let c128_i32_1550 : BitVec 32 := 128#32
  let v3787 : BitVec 32 := Scalar.addi v3786 c128_i32_1550
  v3787
def k0_mult3 (k0_t1 : Fin k0_t1_loop.trips) : BitVec 32 :=
  let c0_i32_1480 : BitVec 32 := 0#32
  let c1_i32_1482 : BitVec 32 := 1#32
  let arg19 : BitVec 32 := Scf.iv c0_i32_1480 c1_i32_1482 k0_t1
  let c512_i32_1553 : BitVec 32 := 512#32
  let v3796 : BitVec 32 := Scalar.muli arg19 c512_i32_1553
  let c256_i32 : BitVec 32 := 256#32
  let v3797 : BitVec 32 := Scalar.addi v3796 c256_i32
  v3797
def k0_mult4 (k0_t1 : Fin k0_t1_loop.trips) : BitVec 32 :=
  let c0_i32_1480 : BitVec 32 := 0#32
  let c1_i32_1482 : BitVec 32 := 1#32
  let arg19 : BitVec 32 := Scf.iv c0_i32_1480 c1_i32_1482 k0_t1
  let c512_i32_1556 : BitVec 32 := 512#32
  let v3806 : BitVec 32 := Scalar.muli arg19 c512_i32_1556
  let c384_i32 : BitVec 32 := 384#32
  let v3807 : BitVec 32 := Scalar.addi v3806 c384_i32
  v3807
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "cap_scale" => some (((Real.sqrt 128)⁻¹ * (1 / 50) : ℝ) : EReal)
  | "exp2_gain" => some ((50 * (Real.log 2)⁻¹ : ℝ) : EReal)
  | _ => none
-- ==== ReferenceIdeal.lean ====
abbrev S8x2048x4096 : Shape := ⟨3, ![8, 2048, 4096]⟩
abbrev S8x2048x1024 : Shape := ⟨3, ![8, 2048, 1024]⟩
abbrev S8x16x1x32 : Shape := ⟨4, ![8, 16, 1, 32]⟩
abbrev S8x16x1x8 : Shape := ⟨4, ![8, 16, 1, 8]⟩
abbrev S8x16x128x32x128 : Shape := ⟨5, ![8, 16, 128, 32, 128]⟩
abbrev S8x16x32 : Shape := ⟨3, ![8, 16, 32]⟩
abbrev S8x16x32x254 : Shape := ⟨4, ![8, 16, 32, 254]⟩
abbrev S8x16x32x1 : Shape := ⟨4, ![8, 16, 32, 1]⟩
abbrev S8x16x1x32x1 : Shape := ⟨5, ![8, 16, 1, 32, 1]⟩
abbrev S8x16x128x8x128 : Shape := ⟨5, ![8, 16, 128, 8, 128]⟩
abbrev S8x16x8 : Shape := ⟨3, ![8, 16, 8]⟩
abbrev S8x16x8x254 : Shape := ⟨4, ![8, 16, 8, 254]⟩
abbrev S8x16x8x1 : Shape := ⟨4, ![8, 16, 8, 1]⟩
abbrev S8x16x1x8x1 : Shape := ⟨5, ![8, 16, 1, 8, 1]⟩
abbrev S8x2048x8x4x128 : Shape := ⟨5, ![8, 2048, 8, 4, 128]⟩
abbrev S8x2048x8x128 : Shape := ⟨4, ![8, 2048, 8, 128]⟩
abbrev S8x16x128x32 : Shape := ⟨4, ![8, 16, 128, 32]⟩
abbrev S8x2048x32 : Shape := ⟨3, ![8, 2048, 32]⟩
abbrev S8x2048x8x4 : Shape := ⟨4, ![8, 2048, 8, 4]⟩
abbrev S8x16x128x8 : Shape := ⟨4, ![8, 16, 128, 8]⟩
abbrev S8x2048x8 : Shape := ⟨3, ![8, 2048, 8]⟩
abbrev S8x8x2048x2048x4 : Shape := ⟨5, ![8, 8, 2048, 2048, 4]⟩
abbrev S8x8x4x2048x2048 : Shape := ⟨5, ![8, 8, 4, 2048, 2048]⟩
abbrev S8x8x4x2048 : Shape := ⟨4, ![8, 8, 4, 2048]⟩
abbrev S8x8x4x2048x1 : Shape := ⟨5, ![8, 8, 4, 2048, 1]⟩
abbrev S8x8x2048 : Shape := ⟨3, ![8, 8, 2048]⟩
abbrev S8x8x1x1x2048 : Shape := ⟨5, ![8, 8, 1, 1, 2048]⟩
abbrev S8x8x4x2048x254 : Shape := ⟨5, ![8, 8, 4, 2048, 254]⟩
abbrev S8x8x4x2048x16x128 : Shape := ⟨6, ![8, 8, 4, 2048, 16, 128]⟩
abbrev S8x8x16x128x4x2048 : Shape := ⟨6, ![8, 8, 16, 128, 4, 2048]⟩
abbrev S8x8x16 : Shape := ⟨3, ![8, 8, 16]⟩
abbrev S8x8x1x1x16x1 : Shape := ⟨6, ![8, 8, 1, 1, 16, 1]⟩
abbrev S8x8x4x2048x128 : Shape := ⟨5, ![8, 8, 4, 2048, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x4096, .bf16⟩
  | .hbm, ⟨1, _⟩ => ⟨S8x2048x1024, .bf16⟩
  | .hbm, ⟨2, _⟩ => ⟨S8x2048x1024, .bf16⟩
  | .hbm, ⟨3, _⟩ => ⟨S8x2048x4096, .bf16⟩
  | .hbm, ⟨4, _⟩ => ⟨S8x2048x4096, .fp8e4m3⟩
  | .hbm, ⟨5, _⟩ => ⟨S8x16x1x32, .f32⟩
  | .hbm, ⟨6, _⟩ => ⟨S8x2048x1024, .fp8e4m3⟩
  | .hbm, ⟨7, _⟩ => ⟨S8x16x1x8, .f32⟩
  | .hbm, ⟨8, _⟩ => ⟨S8x2048x1024, .fp8e4m3⟩
  | .hbm, ⟨9, _⟩ => ⟨S8x16x1x8, .f32⟩
  | .local _ .vmem, ⟨0, _⟩ => ⟨S8x2048x4096, .bf16⟩
  | .local _ .vmem, ⟨1, _⟩ => ⟨S8x2048x1024, .bf16⟩
  | .local _ .vmem, ⟨2, _⟩ => ⟨S8x2048x1024, .bf16⟩
  | .local _ .vmem, ⟨3, _⟩ => ⟨S8x2048x4096, .bf16⟩
  | .local _ .vmem, ⟨4, _⟩ => ⟨S8x2048x4096, .fp8e4m3⟩
  | .local _ .vmem, ⟨5, _⟩ => ⟨S8x16x1x32, .f32⟩
  | .local _ .vmem, ⟨6, _⟩ => ⟨S8x2048x1024, .fp8e4m3⟩
  | .local _ .vmem, ⟨7, _⟩ => ⟨S8x16x1x8, .f32⟩
  | .local _ .vmem, ⟨8, _⟩ => ⟨S8x2048x1024, .fp8e4m3⟩
  | .local _ .vmem, ⟨9, _⟩ => ⟨S8x16x1x8, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "inv_softcap" => some ((1 / 50 : ℝ) : EReal)
  | "sm_scale" => some (((Real.sqrt 128)⁻¹ : ℝ) : EReal)
  | _ => none

abbrev grid0 : Pipeline.Grid := .none

abbrev stage0_0 : Fin 1 → Memref sig .tc .vmem S8x2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x16x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x16x1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2048x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x16x1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Weak.Loop.lean ====
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
set_option warn.classDefReducibility false in
/-- The outer loop over the key/value heads. -/
@[sl_loop] def loopInv_k0_t1 (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x4096 .bf16) (harg5 : arg5.IsWhole) (arg6 : Memref sig .tc .vmem S1x128x4096 .fp8e4m3) (harg6 : arg6.IsWhole) (arg7 : Memref sig .tc .vmem S1x1x1x32 .f32) (harg7 : arg7.IsWhole) (arg8 : Memref sig .tc .vmem S1x128x1024 .fp8e4m3) (harg8 : arg8.IsWhole) (arg9 : Memref sig .tc .vmem S1x1x1x8 .f32) (harg9 : arg9.IsWhole) (arg10 : Memref sig .tc .vmem S1x128x1024 .fp8e4m3) (harg10 : arg10.IsWhole) (arg11 : Memref sig .tc .vmem S1x1x1x8 .f32) (harg11 : arg11.IsWhole) (arg12 : Memref sig .tc .vmem S8x512x128 .fp8e4m3) (harg12 : arg12.IsWhole) (arg13 : Memref sig .tc .vmem S16x8x128x128 .fp8e4m3) (harg13 : arg13.IsWhole) (arg14 : Memref sig .tc .vmem S16x8x128x128 .fp8e4m3) (harg14 : arg14.IsWhole) (arg15 : Memref sig .tc .vmem S8x512 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole) (arg1 : BitVec 32) (v3616 : IVec S128x512 32) (v3633 : IVec S128x512 32) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 where
  inv := fun _ _ => iprop((arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (∃ f, (arg5.view.loc (c : Thread nD τ) ↦[arg5.view.set]{fullShare} f)) ∗ (∃ f, (arg18.view.loc (c : Thread nD τ) ↦[arg18.view.set]{fullShare} f)))
  step := fun k acc => by
    unfold k0_t1_body
    simp only [k0_part1_eq_skeleton, k0_part2_eq_skeleton, k0_part3_eq_skeleton, k0_part4_eq_skeleton, k0_part5_eq_skeleton, k0_part6_eq_skeleton]
    iintro ⟨H12, H13, H14, H15, H16, H17, ⟨%f5, H5⟩, ⟨%f18, H18⟩⟩
    sl_exec
    sl_step
    isplitl [H12]; · iexact H12
    isplitl [H13]; · iexact H13
    isplitl [H14]; · iexact H14
    isplitl [H15]; · iexact H15
    isplitl [H16]; · iexact H16
    isplitl [H17]; · iexact H17
    isplitl [H5]; · iexists _; iexact H5
    iexists _; iexact H18

end Cert.KernelIdeal.Weak

end
-- ==== Proof.Weak.Body.lean ====
module

public import proofs.«01_k».proof.Proof.Gen.KernelIdeal.Frame
public import proofs.«01_k».proof.Proof.Gen.KernelIdeal.Loops
public import Idealize.ShloMosaic.Lib.Claim
public import proofs.«01_k».proof.Proof.Weak.Loop

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
theorem sound_kernel (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x4096 .bf16) (harg5 : arg5.IsWhole) (arg6 : Memref sig .tc .vmem S1x128x4096 .fp8e4m3) (harg6 : arg6.IsWhole) (arg7 : Memref sig .tc .vmem S1x1x1x32 .f32) (harg7 : arg7.IsWhole) (arg8 : Memref sig .tc .vmem S1x128x1024 .fp8e4m3) (harg8 : arg8.IsWhole) (arg9 : Memref sig .tc .vmem S1x1x1x8 .f32) (harg9 : arg9.IsWhole) (arg10 : Memref sig .tc .vmem S1x128x1024 .fp8e4m3) (harg10 : arg10.IsWhole) (arg11 : Memref sig .tc .vmem S1x1x1x8 .f32) (harg11 : arg11.IsWhole) (arg12 : Memref sig .tc .vmem S8x512x128 .fp8e4m3) (harg12 : arg12.IsWhole) (arg13 : Memref sig .tc .vmem S16x8x128x128 .fp8e4m3) (harg13 : arg13.IsWhole) (arg14 : Memref sig .tc .vmem S16x8x128x128 .fp8e4m3) (harg14 : arg14.IsWhole) (arg15 : Memref sig .tc .vmem S8x512 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole)
    (x2 : Vec F S1x128x4096 .bf16) (x3 : Vec F S1x128x1024 .bf16) (x4 : Vec F S1x128x1024 .bf16) (K : PUnit → sProp 𝕄) :
    iprop((owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))
        ∗ ((owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) Set.univ (cc0_fp8_softcap_gqa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_fp8_softcap_gqa_eq_skeleton]; unfold cc0_fp8_softcap_gqa_skel
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
  unfold owns
  iintro ⟨⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  iexists _; iexists _; isplitr
  swap; · iexact H18
  ipureintro; rfl

end Cert.KernelIdeal.Weak

end
-- ==== Proof.Weak.Run.lean ====
module

public import proofs.«01_k».proof.Proof.Gen.KernelIdeal.Frame
public import proofs.«01_k».proof.Proof.Gen.KernelIdeal.Loops
public import Idealize.ShloMosaic.Lib.Claim
public import proofs.«01_k».proof.Proof.Weak.Body

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: the inputs' buffers stay at their blocks; nothing is said of the outputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed 3 t
    | ⟨4, _⟩ => Pipeline.Dat.unnamed 4 t
    | ⟨5, _⟩ => Pipeline.Dat.unnamed 5 t
    | ⟨6, _⟩ => Pipeline.Dat.unnamed 6 t
    | ⟨7, _⟩ => Pipeline.Dat.unnamed 7 t
    | ⟨8, _⟩ => Pipeline.Dat.unnamed 8 t
    | ⟨9, _⟩ => Pipeline.Dat.unnamed 9 t
  Φ _ := Pipeline.ΦA spec0 c
  q _ := fullShare
  owed _ := 0

/-- The outputs are forgotten. -/
def fgt (w : Fin cfg0.W) : Bool := match w with
  | ⟨0, _⟩ => false | ⟨1, _⟩ => false | ⟨2, _⟩ => false | ⟨3, _⟩ => true | ⟨4, _⟩ => true | ⟨5, _⟩ => true | ⟨6, _⟩ => true | ⟨7, _⟩ => true | ⟨8, _⟩ => true | ⟨9, _⟩ => true

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d

/-- What the body is called with at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))
/-- What it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, after0_0, after0_1, after0_2]
  unfold Pipeline.ΦA
  rw [scopedRest0_eq]
  iintro ⟨⟨⟨⟨%s0, HS0⟩, ⟨%s1, HS1⟩, ⟨%s2, HS2⟩, ⟨%s3, HS3⟩, ⟨%s4, HS4⟩, ⟨%s5, HS5⟩, ⟨%s6, HS6⟩⟩, HP⟩, Ho, ⟨%d0, H0⟩, ⟨%d1, H1⟩, ⟨%d2, H2⟩, H3, H4, H5, H6, H7, H8, H9⟩
  iapply (sound_kernel c _ _ _ _ _ _ _ _ _ _ _ _ _ _ _ _ _ _ _ _ _ _ _ _ _ _ _ _ _ _ _ _ _ _ _ (iblk m c 0 t) (iblk m c 1 t) (iblk m c 2 t) _)
  isplitl [H0 H1 H2 H3 H4 H5 H6 H7 H8 H9 HS0 HS1 HS2 HS3 HS4 HS5 HS6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]
    · iexists s0; rw [owns_whole_eq]; iexists s0; isplitr; · ipureintro; rfl
      iexact HS0
    isplitl [HS1]
    · iexists s1; rw [owns_whole_eq]; iexists s1; isplitr; · ipureintro; rfl
      iexact HS1
    isplitl [HS2]
    · iexists s2; rw [owns_whole_eq]; iexists s2; isplitr; · ipureintro; rfl
      iexact HS2
    isplitl [HS3]
    · iexists s3; rw [owns_whole_eq]; iexists s3; isplitr; · ipureintro; rfl
      iexact HS3
    isplitl [HS4]
    · iexists s4; rw [owns_whole_eq]; iexists s4; isplitr; · ipureintro; rfl
      iexact HS4
    isplitl [HS5]
    · iexists s5; rw [owns_whole_eq]; iexists s5; isplitr; · ipureintro; rfl
      iexact HS5
    iexists s6; rw [owns_whole_eq]; iexists s6; isplitr; · ipureintro; rfl
    iexact HS6
  iintro ⟨H0, H1, H2, H3, H4, H5, H6, H7, H8, H9, ⟨%e0, HS0⟩, ⟨%e1, HS1⟩, ⟨%e2, HS2⟩, ⟨%e3, HS3⟩, ⟨%e4, HS4⟩, ⟨%e5, HS5⟩, ⟨%e6, HS6⟩⟩
  simp only [owns_whole_eq]
  isplitl [HP HS0 HS1 HS2 HS3 HS4 HS5 HS6]
  · isplitr [HP]
    swap; · iexact HP
    isplitl [HS0]
    · icases HS0 with ⟨%g0, -, HS0⟩; iexists g0; iexact HS0
    isplitl [HS1]
    · icases HS1 with ⟨%g1, -, HS1⟩; iexists g1; iexact HS1
    isplitl [HS2]
    · icases HS2 with ⟨%g2, -, HS2⟩; iexists g2; iexact HS2
    isplitl [HS3]
    · icases HS3 with ⟨%g3, -, HS3⟩; iexists g3; iexact HS3
    isplitl [HS4]
    · icases HS4 with ⟨%g4, -, HS4⟩; iexists g4; iexact HS4
    isplitl [HS5]
    · icases HS5 with ⟨%g5, -, HS5⟩; iexists g5; iexact HS5
    icases HS6 with ⟨%g6, -, HS6⟩; iexists g6; iexact HS6
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: terminates, the arrays as the proof data says, every counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hin := fun _ => .rfl) (hout := fun _ => .rfl)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1.arr_in c 0 rfl).trans ((A_eq m c 0).trans (V_main_arg0 m c)),
     (h.1.arr_in c 1 rfl).trans ((A_eq m c 1).trans (V_main_arg1 m c)),
     (h.1.arr_in c 2 rfl).trans ((A_eq m c 2).trans (V_main_arg2 m c))⟩, h.2⟩) (run_main m ρ)

end Cert.KernelIdeal.Weak

end
-- ==== Proof.WeakP.Loop.lean ====
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option warn.classDefReducibility false in
/-- The outer loop over the key/value heads. -/
@[sl_loop] def loopInv_k0_t1 (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x4096 .bf16) (harg5 : arg5.IsWhole) (arg6 : Memref sig .tc .vmem S1x128x4096 .fp8e4m3) (harg6 : arg6.IsWhole) (arg7 : Memref sig .tc .vmem S1x1x1x32 .f32) (harg7 : arg7.IsWhole) (arg8 : Memref sig .tc .vmem S1x128x1024 .fp8e4m3) (harg8 : arg8.IsWhole) (arg9 : Memref sig .tc .vmem S1x1x1x8 .f32) (harg9 : arg9.IsWhole) (arg10 : Memref sig .tc .vmem S1x128x1024 .fp8e4m3) (harg10 : arg10.IsWhole) (arg11 : Memref sig .tc .vmem S1x1x1x8 .f32) (harg11 : arg11.IsWhole) (arg12 : Memref sig .tc .vmem S8x512x128 .fp8e4m3) (harg12 : arg12.IsWhole) (arg13 : Memref sig .tc .vmem S16x8x128x128 .fp8e4m3) (harg13 : arg13.IsWhole) (arg14 : Memref sig .tc .vmem S16x8x128x128 .fp8e4m3) (harg14 : arg14.IsWhole) (arg15 : Memref sig .tc .vmem S8x512 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole) (arg1 : BitVec 32) (v3616 : IVec S128x512 32) (v3633 : IVec S128x512 32) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 where
  inv := fun _ _ => iprop((arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (∃ f, (arg5.view.loc (c : Thread nD τ) ↦[arg5.view.set]{fullShare} f)) ∗ (∃ f, (arg18.view.loc (c : Thread nD τ) ↦[arg18.view.set]{fullShare} f)))
  step := fun k acc => by
    unfold k0_t1_body
    simp only [k0_part1_eq_skeleton, k0_part2_eq_skeleton, k0_part3_eq_skeleton, k0_part4_eq_skeleton, k0_part5_eq_skeleton, k0_part6_eq_skeleton]
    iintro ⟨H12, H13, H14, H15, H16, H17, ⟨%f5, H5⟩, ⟨%f18, H18⟩⟩
    sl_exec
    sl_step
    isplitl [H12]; · iexact H12
    isplitl [H13]; · iexact H13
    isplitl [H14]; · iexact H14
    isplitl [H15]; · iexact H15
    isplitl [H16]; · iexact H16
    isplitl [H17]; · iexact H17
    isplitl [H5]; · iexists _; iexact H5
    iexists _; iexact H18

end Cert.Kernel.Weak

end
-- ==== Proof.WeakP.Body.lean ====
module

public import proofs.«01_k».proof.Proof.Gen.Kernel.Frame
public import proofs.«01_k».proof.Proof.Gen.Kernel.Loops
public import Idealize.ShloMosaic.Lib.Claim
public import proofs.«01_k».proof.Proof.WeakP.Loop

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
theorem sound_kernel (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x4096 .bf16) (harg5 : arg5.IsWhole) (arg6 : Memref sig .tc .vmem S1x128x4096 .fp8e4m3) (harg6 : arg6.IsWhole) (arg7 : Memref sig .tc .vmem S1x1x1x32 .f32) (harg7 : arg7.IsWhole) (arg8 : Memref sig .tc .vmem S1x128x1024 .fp8e4m3) (harg8 : arg8.IsWhole) (arg9 : Memref sig .tc .vmem S1x1x1x8 .f32) (harg9 : arg9.IsWhole) (arg10 : Memref sig .tc .vmem S1x128x1024 .fp8e4m3) (harg10 : arg10.IsWhole) (arg11 : Memref sig .tc .vmem S1x1x1x8 .f32) (harg11 : arg11.IsWhole) (arg12 : Memref sig .tc .vmem S8x512x128 .fp8e4m3) (harg12 : arg12.IsWhole) (arg13 : Memref sig .tc .vmem S16x8x128x128 .fp8e4m3) (harg13 : arg13.IsWhole) (arg14 : Memref sig .tc .vmem S16x8x128x128 .fp8e4m3) (harg14 : arg14.IsWhole) (arg15 : Memref sig .tc .vmem S8x512 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole)
    (x2 : Vec F S1x128x4096 .bf16) (x3 : Vec F S1x128x1024 .bf16) (x4 : Vec F S1x128x1024 .bf16) (K : PUnit → sProp 𝕄) :
    iprop((owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))
        ∗ ((owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) Set.univ (cc0_fp8_softcap_gqa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_fp8_softcap_gqa_eq_skeleton]; unfold cc0_fp8_softcap_gqa_skel
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
  unfold owns
  iintro ⟨⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  iexists _; iexists _; isplitr
  swap; · iexact H18
  ipureintro; rfl

end Cert.Kernel.Weak

end
-- ==== Proof.WeakP.Run.lean ====
module

public import proofs.«01_k».proof.Proof.Gen.Kernel.Frame
public import proofs.«01_k».proof.Proof.Gen.Kernel.Loops
public import Idealize.ShloMosaic.Lib.Claim
public import proofs.«01_k».proof.Proof.WeakP.Body

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the inputs' buffers stay at their blocks; nothing is said of the outputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed 3 t
    | ⟨4, _⟩ => Pipeline.Dat.unnamed 4 t
    | ⟨5, _⟩ => Pipeline.Dat.unnamed 5 t
    | ⟨6, _⟩ => Pipeline.Dat.unnamed 6 t
    | ⟨7, _⟩ => Pipeline.Dat.unnamed 7 t
    | ⟨8, _⟩ => Pipeline.Dat.unnamed 8 t
    | ⟨9, _⟩ => Pipeline.Dat.unnamed 9 t
  Φ _ := Pipeline.ΦA spec0 c
  q _ := fullShare
  owed _ := 0

/-- The outputs are forgotten. -/
def fgt (w : Fin cfg0.W) : Bool := match w with
  | ⟨0, _⟩ => false | ⟨1, _⟩ => false | ⟨2, _⟩ => false | ⟨3, _⟩ => true | ⟨4, _⟩ => true | ⟨5, _⟩ => true | ⟨6, _⟩ => true | ⟨7, _⟩ => true | ⟨8, _⟩ => true | ⟨9, _⟩ => true

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d

/-- What the body is called with at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))
/-- What it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, after0_0, after0_1, after0_2]
  unfold Pipeline.ΦA
  rw [scopedRest0_eq]
  iintro ⟨⟨⟨⟨%s0, HS0⟩, ⟨%s1, HS1⟩, ⟨%s2, HS2⟩, ⟨%s3, HS3⟩, ⟨%s4, HS4⟩, ⟨%s5, HS5⟩, ⟨%s6, HS6⟩⟩, HP⟩, Ho, ⟨%d0, H0⟩, ⟨%d1, H1⟩, ⟨%d2, H2⟩, H3, H4, H5, H6, H7, H8, H9⟩
  iapply (sound_kernel c _ _ _ _ _ _ _ _ _ _ _ _ _ _ _ _ _ _ _ _ _ _ _ _ _ _ _ _ _ _ _ _ _ _ _ (iblk m c 0 t) (iblk m c 1 t) (iblk m c 2 t) _)
  isplitl [H0 H1 H2 H3 H4 H5 H6 H7 H8 H9 HS0 HS1 HS2 HS3 HS4 HS5 HS6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]
    · iexists s0; rw [owns_whole_eq]; iexists s0; isplitr; · ipureintro; rfl
      iexact HS0
    isplitl [HS1]
    · iexists s1; rw [owns_whole_eq]; iexists s1; isplitr; · ipureintro; rfl
      iexact HS1
    isplitl [HS2]
    · iexists s2; rw [owns_whole_eq]; iexists s2; isplitr; · ipureintro; rfl
      iexact HS2
    isplitl [HS3]
    · iexists s3; rw [owns_whole_eq]; iexists s3; isplitr; · ipureintro; rfl
      iexact HS3
    isplitl [HS4]
    · iexists s4; rw [owns_whole_eq]; iexists s4; isplitr; · ipureintro; rfl
      iexact HS4
    isplitl [HS5]
    · iexists s5; rw [owns_whole_eq]; iexists s5; isplitr; · ipureintro; rfl
      iexact HS5
    iexists s6; rw [owns_whole_eq]; iexists s6; isplitr; · ipureintro; rfl
    iexact HS6
  iintro ⟨H0, H1, H2, H3, H4, H5, H6, H7, H8, H9, ⟨%e0, HS0⟩, ⟨%e1, HS1⟩, ⟨%e2, HS2⟩, ⟨%e3, HS3⟩, ⟨%e4, HS4⟩, ⟨%e5, HS5⟩, ⟨%e6, HS6⟩⟩
  simp only [owns_whole_eq]
  isplitl [HP HS0 HS1 HS2 HS3 HS4 HS5 HS6]
  · isplitr [HP]
    swap; · iexact HP
    isplitl [HS0]
    · icases HS0 with ⟨%g0, -, HS0⟩; iexists g0; iexact HS0
    isplitl [HS1]
    · icases HS1 with ⟨%g1, -, HS1⟩; iexists g1; iexact HS1
    isplitl [HS2]
    · icases HS2 with ⟨%g2, -, HS2⟩; iexists g2; iexact HS2
    isplitl [HS3]
    · icases HS3 with ⟨%g3, -, HS3⟩; iexists g3; iexact HS3
    isplitl [HS4]
    · icases HS4 with ⟨%g4, -, HS4⟩; iexists g4; iexact HS4
    isplitl [HS5]
    · icases HS5 with ⟨%g5, -, HS5⟩; iexists g5; iexact HS5
    icases HS6 with ⟨%g6, -, HS6⟩; iexists g6; iexact HS6
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: terminates, the arrays as the proof data says, every counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hin := fun _ => .rfl) (hout := fun _ => .rfl)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1.arr_in c 0 rfl).trans ((A_eq m c 0).trans (V_main_arg0 m c)),
     (h.1.arr_in c 1 rfl).trans ((A_eq m c 1).trans (V_main_arg1 m c)),
     (h.1.arr_in c 2 rfl).trans ((A_eq m c 2).trans (V_main_arg2 m c))⟩, h.2⟩) (run_main m ρ)

end Cert.Kernel.Weak

end
-- ==== Proof.Strong.Fun.lean ====
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Strong

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The tile of head `j` of key/value block `kb` in a scratch of tiles. -/
def kt {e : EltTy} (X : Vec F S16x8x128x128 e) (kb : Fin 16) (j : Fin 8) : Vec F S1x1x128x128 e :=
  View.ld X (Rect.unit (s := S16x8x128x128) ![kb.val, j.val, 0, 0] S1x1x128x128.size (by
    intro a; fin_cases a <;> simp [Matrix.vecHead, Matrix.vecTail] <;> omega))

/-- The row of head `j` of key/value block `kb` in a scratch of scale rows. -/
def row (X : Vec F S128x512 .f32) (kb : Fin 16) (j : Fin 8) : Vec F S1x512 .f32 :=
  View.ld X (Rect.unit (s := S128x512) ![8 * kb.val + j.val, 0] S1x512.size (by
    intro a; fin_cases a <;> simp [Matrix.vecHead, Matrix.vecTail] <;> omega))

/-- Head group `j`'s 512 query rows. -/
def qt (X : Vec F S8x512x128 .fp8e4m3) (j : Fin 8) : Vec F S1x512x128 .fp8e4m3 :=
  View.ld X (Rect.unit (s := S8x512x128) ![j.val, 0, 0] S1x512x128.size (by
    intro a; fin_cases a <;> simp [Matrix.vecHead, Matrix.vecTail] <;> omega))

/-- Head group `j`'s row of query scales. -/
def ct (X : Vec F S8x512 .f32) (j : Fin 8) : Vec F S1x512 .f32 :=
  View.ld X (Rect.unit (s := S8x512) ![j.val, 0] S1x512.size (by
    intro a; fin_cases a <;> simp [Matrix.vecHead, Matrix.vecTail] <;> omega))

/-- A load through a rectangle depends on its offsets alone. -/
theorem ld_congr {s : Shape} {e : EltTy} (X : Vec F s e) {off off' : Fin s.rank → ℕ} (size : Fin s.rank → ℕ)
    (h : ∀ a, off a + size a ≤ s.size a) (h' : ∀ a, off' a + size a ≤ s.size a) (he : off = off') :
    View.ld X (Rect.unit off size h) = View.ld X (Rect.unit off' size h') := by
  subst he; rfl

section Head

variable (q : Vec F S8x512x128 .fp8e4m3) (kv vt : Vec F S16x8x128x128 .fp8e4m3) (cq : Vec F S8x512 .f32)
  (kr vr : Vec F S128x512 .f32) (mask : IVec S128x512 1) (i : Fin 16) (j : Fin 8)

/-- The running maximum of the raw scores before block `k`. -/
def hMax : ℕ → FVec F S8x512 .f32
  | 0 => k0_pay11
  | k + 1 => k0_pay12 (qt q j) (hMax k) (kt kv (Fin.ofNat 16 k) j) (row kr (Fin.ofNat 16 k) j)

/-- The capped maximum over all keys. -/
def hT : FVec F S1x512 .f32 := k0_pay14 mask (qt q j) (ct cq j) (hMax q kv kr j i.val) (kt kv i j) (row kr i j)
/-- `exp` of the maximum minus itself. -/
def hE : FVec F S1x512 .f32 := k0_pay15 mask (qt q j) (ct cq j) (hMax q kv kr j i.val) (kt kv i j) (row kr i j)
/-- The same over the largest code. -/
def hEs : FVec F S1x512 .f32 := k0_pay16 mask (qt q j) (ct cq j) (hMax q kv kr j i.val) (kt kv i j) (row kr i j)

/-- The probabilities' scale. -/
def hPs : FVec F S1x512 .f32 :=
  k0_pay18 (hE q kv cq kr mask i j) (hEs q kv cq kr mask i j) (iota .tc S256x1 32 [0] iota_S256x1_d0_w32) 1#32
/-- The shift inside the exponential. -/
def hSh : FVec F S1x512 .f32 :=
  k0_pay19 (hT q kv cq kr mask i j) (hE q kv cq kr mask i j) (hEs q kv cq kr mask i j)
    (iota .tc S256x1 32 [0] iota_S256x1_d0_w32) 1#32

/-- The accumulated values before block `k`. -/
def hAcc : ℕ → FVec F S128x512 .f32
  | 0 => k0_pay20
  | k + 1 => k0_pay5 (k0_pay10 (qt q j)) (ct cq j) (hSh q kv cq kr mask i j) (kt kv (Fin.ofNat 16 k) j) (row kr (Fin.ofNat 16 k) j)
      (kt vt (Fin.ofNat 16 k) j) (hAcc k) (row vr (Fin.ofNat 16 k) j)

/-- The accumulated row sums before block `k`. -/
def hL : ℕ → FVec F S8x512 .f32
  | 0 => k0_pay21
  | k + 1 => k0_pay22 (hL k) (k0_pay6 (k0_pay10 (qt q j)) (ct cq j) (hSh q kv cq kr mask i j) (kt kv (Fin.ofNat 16 k) j) (row kr (Fin.ofNat 16 k) j))

/-- The diagonal block's probabilities. -/
def hP : FVec F S128x512 .f32 :=
  k0_pay24 mask (k0_pay10 (qt q j)) (ct cq j) (hSh q kv cq kr mask i j) (kt kv i j) (row kr i j)

/-- The accumulated values after the diagonal block. -/
def hAccD : FVec F S128x512 .f32 :=
  k0_pay26 (k0_pay25 mask (k0_pay10 (qt q j)) (ct cq j) (hSh q kv cq kr mask i j) (kt kv i j) (row kr i j) (kt vt i j))
    (hAcc q kv vt cq kr vr mask i j i.val) (row vr i j)

/-- The head group's output, 128 value columns by 512 query rows. -/
def hOut : FVec F S128x512 .f32 :=
  k0_pay27 (hPs q kv cq kr mask i j) (hL q kv cq kr mask i j i.val) (hP q kv cq kr mask i j) (hAccD q kv vt cq kr vr mask i j)

/-- The four tiles the head group stores. -/
def hY (g : Fin 4) : FVec F S1x128x128 .bf16 :=
  match g with
  | 0 => k0_pay28 (hPs q kv cq kr mask i j) (hL q kv cq kr mask i j i.val) (hP q kv cq kr mask i j) (hAccD q kv vt cq kr vr mask i j)
  | 1 => k0_pay29 (hPs q kv cq kr mask i j) (hL q kv cq kr mask i j i.val) (hP q kv cq kr mask i j) (hAccD q kv vt cq kr vr mask i j)
  | 2 => k0_pay2 (hOut q kv vt cq kr vr mask i j)
  | 3 => k0_pay3 (hOut q kv vt cq kr vr mask i j)

end Head

end Cert.KernelIdeal.Strong

end
-- ==== Proof.Strong.Trips.lean ====
module

public import proofs.«01_k».proof.Proof.Gen.KernelIdeal.Frame
public import proofs.«01_k».proof.Proof.Gen.KernelIdeal.Loops
public import Idealize.ShloMosaic.Lib.Claim
public import proofs.«01_k».proof.Proof.Strong.Fun
public import Idealize.ShloMosaic.Lib.WritesUnit
public import Idealize.ShloMosaic.Lib.Pipeline.Value

@[expose] public section

set_option maxRecDepth 16384

noncomputable section

namespace Cert.KernelIdeal.Strong

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem z2 : (![0, 0] : Fin S128x512.rank → ℕ) = fun _ => 0 := by
  funext a; fin_cases a <;> rfl

theorem read_whole {κ : Kind} {sp : Space} (v : View sig κ sp S128x512 .f32) (f : v.ty.Contents (Elt F)) (w : Vec F S128x512 .f32) (Lp : List (View.Piece (Elt F) S128x512 .f32)) :
    v.read (Elt F) (v.writes (Elt F) f ((⟨Rect.unit ![0, 0] S128x512.size inb_S128x512_S128x512_0_0, w⟩ : View.Piece (Elt F) S128x512 .f32) :: Lp)) = w := by
  funext y
  exact View.read_writes_cons_unit_of_mem v f _ w Lp y y z2 (fun a => (Nat.zero_add _).symm)

theorem ld_whole (X : Vec F S128x512 .f32) :
    View.ld X (Rect.unit ![0, 0] S128x512.size inb_S128x512_S128x512_0_0) = X :=
  View.ld_unit_zero z2 _ X

theorem t1_trips : k0_t1_loop.trips = 8 := by decide +kernel
theorem t2_trips : ∀ i : grid0.Coords, (k0_t2_loop i).trips = (i 1).val := by decide +kernel
theorem t3_trips : ∀ i : grid0.Coords, (k0_t3_loop i).trips = 0 := by decide +kernel
theorem t4_trips : ∀ i : grid0.Coords, (k0_t4_loop i).trips = (i 1).val := by decide +kernel
theorem t5_trips : ∀ i : grid0.Coords, (k0_t5_loop i).trips = 0 := by decide +kernel

theorem tripR2_eq (𝒱 : Variants) (c : Dev nD) (bd : Option 𝒱.V) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x4096 .bf16) (harg5 : arg5.IsWhole) (arg6 : Memref sig .tc .vmem S1x128x4096 .fp8e4m3) (harg6 : arg6.IsWhole) (arg7 : Memref sig .tc .vmem S1x1x1x32 .f32) (harg7 : arg7.IsWhole) (arg8 : Memref sig .tc .vmem S1x128x1024 .fp8e4m3) (harg8 : arg8.IsWhole) (arg9 : Memref sig .tc .vmem S1x1x1x8 .f32) (harg9 : arg9.IsWhole) (arg10 : Memref sig .tc .vmem S1x128x1024 .fp8e4m3) (harg10 : arg10.IsWhole) (arg11 : Memref sig .tc .vmem S1x1x1x8 .f32) (harg11 : arg11.IsWhole) (arg12 : Memref sig .tc .vmem S8x512x128 .fp8e4m3) (harg12 : arg12.IsWhole) (arg13 : Memref sig .tc .vmem S16x8x128x128 .fp8e4m3) (harg13 : arg13.IsWhole) (arg14 : Memref sig .tc .vmem S16x8x128x128 .fp8e4m3) (harg14 : arg14.IsWhole) (arg15 : Memref sig .tc .vmem S8x512 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole) (arg1 : BitVec 32) (v3634 : IVec S128x512 1) (c0_i32_1480 : BitVec 32) (c1_i32_1482 : BitVec 32) (k0_t1 : Fin k0_t1_loop.trips) (v3637 : Vec F S1x512x128 .fp8e4m3) (X_arg13 : BufTy.Contents (Elt F) arg13.view.ty) (X_arg16 : BufTy.Contents (Elt F) arg16.view.ty) (k : Fin (k0_t2_loop i).trips) (acc : FVec F S8x512 .f32) :
    tripR_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3634 c0_i32_1480 c1_i32_1482 k0_t1 v3637 X_arg13 X_arg16 k acc
      = k0_pay12 v3637 acc (kt (arg13.view.read _ X_arg13) (Fin.ofNat 16 k.val) (Fin.ofNat 8 k0_t1.val)) (row (arg16.view.read _ X_arg16) (Fin.ofNat 16 k.val) (Fin.ofNat 8 k0_t1.val)) := by
  unfold tripR_k0_t2 trip_k0_t2
  have hk : k.val % 16 = k.val := Nat.mod_eq_of_lt (lt_of_lt_of_le k.isLt (le_trans (k0_t2_abs i).2.1 (by norm_num)))
  have hj : k0_t1.val % 8 = k0_t1.val := Nat.mod_eq_of_lt (lt_of_lt_of_le k0_t1.isLt k0_t1_abs.2.1)
  refine congrArg₂ (fun a b => k0_pay12 v3637 acc a b) ?_ ?_
  · refine (ld_congr _ _ _ _ ?_)
    rw [k0_off12_eq]; simp [Fin.ofNat, hk, hj]
  · refine (ld_congr _ _ _ _ ?_)
    rw [k0_off13_eq]; simp [Fin.ofNat, hk, hj]

theorem tripR4_eq (𝒱 : Variants) (c : Dev nD) (bd : Option 𝒱.V) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x4096 .bf16) (harg5 : arg5.IsWhole) (arg6 : Memref sig .tc .vmem S1x128x4096 .fp8e4m3) (harg6 : arg6.IsWhole) (arg7 : Memref sig .tc .vmem S1x1x1x32 .f32) (harg7 : arg7.IsWhole) (arg8 : Memref sig .tc .vmem S1x128x1024 .fp8e4m3) (harg8 : arg8.IsWhole) (arg9 : Memref sig .tc .vmem S1x1x1x8 .f32) (harg9 : arg9.IsWhole) (arg10 : Memref sig .tc .vmem S1x128x1024 .fp8e4m3) (harg10 : arg10.IsWhole) (arg11 : Memref sig .tc .vmem S1x1x1x8 .f32) (harg11 : arg11.IsWhole) (arg12 : Memref sig .tc .vmem S8x512x128 .fp8e4m3) (harg12 : arg12.IsWhole) (arg13 : Memref sig .tc .vmem S16x8x128x128 .fp8e4m3) (harg13 : arg13.IsWhole) (arg14 : Memref sig .tc .vmem S16x8x128x128 .fp8e4m3) (harg14 : arg14.IsWhole) (arg15 : Memref sig .tc .vmem S8x512 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole) (arg1 : BitVec 32) (v3634 : IVec S128x512 1) (k0_t1 : Fin k0_t1_loop.trips) (arg19 : BitVec 32) (v3638 : FVec F S512x128 .fp8e4m3) (v3640 : Vec F S1x512 .f32) (v3712 : FVec F S1x512 .f32) (v3717 : FVec F S8x512 .f32) (X_arg13 : BufTy.Contents (Elt F) arg13.view.ty) (X_arg14 : BufTy.Contents (Elt F) arg14.view.ty) (X_arg16 : BufTy.Contents (Elt F) arg16.view.ty) (X_arg17 : BufTy.Contents (Elt F) arg17.view.ty) (k : Fin (k0_t4_loop i).trips) (acc : FVec F S8x512 .f32) (f_arg18 : BufTy.Contents (Elt F) arg18.view.ty) :
    tripR_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3634 k0_t1 arg19 v3638 v3640 v3712 v3717 X_arg13 X_arg14 X_arg16 X_arg17 k acc f_arg18
      = k0_pay22 acc (k0_pay6 v3638 v3640 v3712 (kt (arg13.view.read _ X_arg13) (Fin.ofNat 16 k.val) (Fin.ofNat 8 k0_t1.val)) (row (arg16.view.read _ X_arg16) (Fin.ofNat 16 k.val) (Fin.ofNat 8 k0_t1.val))) := by
  unfold tripR_k0_t4 trip_k0_t4
  have hk : k.val % 16 = k.val := Nat.mod_eq_of_lt (lt_of_lt_of_le k.isLt (le_trans (k0_t4_abs i).2.1 (by norm_num)))
  have hj : k0_t1.val % 8 = k0_t1.val := Nat.mod_eq_of_lt (lt_of_lt_of_le k0_t1.isLt k0_t1_abs.2.1)
  refine congrArg₂ (fun a b => k0_pay22 acc (k0_pay6 v3638 v3640 v3712 a b)) ?_ ?_
  · refine (ld_congr _ _ _ _ ?_)
    rw [k0_off18_eq]; simp [Fin.ofNat, hk, hj]
  · refine (ld_congr _ _ _ _ ?_)
    rw [k0_off19_eq]; simp [Fin.ofNat, hk, hj]

theorem tripL4_eq (𝒱 : Variants) (c : Dev nD) (bd : Option 𝒱.V) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x4096 .bf16) (harg5 : arg5.IsWhole) (arg6 : Memref sig .tc .vmem S1x128x4096 .fp8e4m3) (harg6 : arg6.IsWhole) (arg7 : Memref sig .tc .vmem S1x1x1x32 .f32) (harg7 : arg7.IsWhole) (arg8 : Memref sig .tc .vmem S1x128x1024 .fp8e4m3) (harg8 : arg8.IsWhole) (arg9 : Memref sig .tc .vmem S1x1x1x8 .f32) (harg9 : arg9.IsWhole) (arg10 : Memref sig .tc .vmem S1x128x1024 .fp8e4m3) (harg10 : arg10.IsWhole) (arg11 : Memref sig .tc .vmem S1x1x1x8 .f32) (harg11 : arg11.IsWhole) (arg12 : Memref sig .tc .vmem S8x512x128 .fp8e4m3) (harg12 : arg12.IsWhole) (arg13 : Memref sig .tc .vmem S16x8x128x128 .fp8e4m3) (harg13 : arg13.IsWhole) (arg14 : Memref sig .tc .vmem S16x8x128x128 .fp8e4m3) (harg14 : arg14.IsWhole) (arg15 : Memref sig .tc .vmem S8x512 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole) (arg1 : BitVec 32) (v3634 : IVec S128x512 1) (k0_t1 : Fin k0_t1_loop.trips) (arg19 : BitVec 32) (v3638 : FVec F S512x128 .fp8e4m3) (v3640 : Vec F S1x512 .f32) (v3712 : FVec F S1x512 .f32) (v3717 : FVec F S8x512 .f32) (X_arg13 : BufTy.Contents (Elt F) arg13.view.ty) (X_arg14 : BufTy.Contents (Elt F) arg14.view.ty) (X_arg16 : BufTy.Contents (Elt F) arg16.view.ty) (X_arg17 : BufTy.Contents (Elt F) arg17.view.ty) (k : Fin (k0_t4_loop i).trips) (acc : FVec F S8x512 .f32) (f_arg18 : BufTy.Contents (Elt F) arg18.view.ty) :
    arg18.view.read (Elt F) (arg18.view.writes (Elt F) f_arg18 (tripL_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3634 k0_t1 arg19 v3638 v3640 v3712 v3717 X_arg13 X_arg14 X_arg16 X_arg17 k acc f_arg18))
      = k0_pay5 v3638 v3640 v3712 (kt (arg13.view.read _ X_arg13) (Fin.ofNat 16 k.val) (Fin.ofNat 8 k0_t1.val)) (row (arg16.view.read _ X_arg16) (Fin.ofNat 16 k.val) (Fin.ofNat 8 k0_t1.val))
         (kt (arg14.view.read _ X_arg14) (Fin.ofNat 16 k.val) (Fin.ofNat 8 k0_t1.val)) (arg18.view.read _ f_arg18) (row (arg17.view.read _ X_arg17) (Fin.ofNat 16 k.val) (Fin.ofNat 8 k0_t1.val)) := by
  unfold tripL_k0_t4 trip_k0_t4
  have hk : k.val % 16 = k.val := Nat.mod_eq_of_lt (lt_of_lt_of_le k.isLt (le_trans (k0_t4_abs i).2.1 (by norm_num)))
  have hj : k0_t1.val % 8 = k0_t1.val := Nat.mod_eq_of_lt (lt_of_lt_of_le k0_t1.isLt k0_t1_abs.2.1)
  refine (read_whole _ _ _ _).trans ?_
  have e13 : ∀ X : Vec F S16x8x128x128 .fp8e4m3, View.ld X (Rect.unit (k0_off18 i k0_t1 k) S1x1x128x128.size (k0_off18_inb i k0_t1 k)) = kt X (Fin.ofNat 16 k.val) (Fin.ofNat 8 k0_t1.val) := fun X => by
    refine (ld_congr _ _ _ _ ?_)
    rw [k0_off18_eq]; simp [Fin.ofNat, hk, hj]
  have e16 : ∀ X : Vec F S128x512 .f32, View.ld X (Rect.unit (k0_off19 i k0_t1 k) S1x512.size (k0_off19_inb i k0_t1 k)) = row X (Fin.ofNat 16 k.val) (Fin.ofNat 8 k0_t1.val) := fun X => by
    refine (ld_congr _ _ _ _ ?_)
    rw [k0_off19_eq]; simp [Fin.ofNat, hk, hj]
  simp only [View.readAt_eq_ld, e13, e16]
  exact congrArg (fun z => k0_pay5 v3638 v3640 v3712 _ _ _ z _) (ld_whole _)

theorem st2_eq (𝒱 : Variants) (c : Dev nD) (bd : Option 𝒱.V) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x4096 .bf16) (harg5 : arg5.IsWhole) (arg6 : Memref sig .tc .vmem S1x128x4096 .fp8e4m3) (harg6 : arg6.IsWhole) (arg7 : Memref sig .tc .vmem S1x1x1x32 .f32) (harg7 : arg7.IsWhole) (arg8 : Memref sig .tc .vmem S1x128x1024 .fp8e4m3) (harg8 : arg8.IsWhole) (arg9 : Memref sig .tc .vmem S1x1x1x8 .f32) (harg9 : arg9.IsWhole) (arg10 : Memref sig .tc .vmem S1x128x1024 .fp8e4m3) (harg10 : arg10.IsWhole) (arg11 : Memref sig .tc .vmem S1x1x1x8 .f32) (harg11 : arg11.IsWhole) (arg12 : Memref sig .tc .vmem S8x512x128 .fp8e4m3) (harg12 : arg12.IsWhole) (arg13 : Memref sig .tc .vmem S16x8x128x128 .fp8e4m3) (harg13 : arg13.IsWhole) (arg14 : Memref sig .tc .vmem S16x8x128x128 .fp8e4m3) (harg14 : arg14.IsWhole) (arg15 : Memref sig .tc .vmem S8x512 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole) (arg1 : BitVec 32) (v3634 : IVec S128x512 1) (c0_i32_1480 : BitVec 32) (c1_i32_1482 : BitVec 32) (k0_t1 : Fin k0_t1_loop.trips)  (X_arg13 : BufTy.Contents (Elt F) arg13.view.ty) (X_arg16 : BufTy.Contents (Elt F) arg16.view.ty)  (q : Vec F S8x512x128 .fp8e4m3) (k : ℕ) (hk : k ≤ (k0_t2_loop i).trips) :
    st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3634 c0_i32_1480 c1_i32_1482 k0_t1 (qt q (Fin.ofNat 8 k0_t1.val)) X_arg13 X_arg16  k0_pay11 k
      = hMax q (arg13.view.read _ X_arg13) (arg16.view.read _ X_arg16) (Fin.ofNat 8 k0_t1.val) k := by
  induction k with
  | zero => rfl
  | succ k ih =>
    have h := st_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3634 c0_i32_1480 c1_i32_1482 k0_t1 (qt q (Fin.ofNat 8 k0_t1.val)) X_arg13 X_arg16  k0_pay11 ⟨k, hk⟩
    rw [show (k + 1) = (⟨k, hk⟩ : Fin (k0_t2_loop i).trips).val + 1 from rfl, h, tripR2_eq, ih (Nat.le_of_lt hk)]
    rfl

theorem st4_eq (𝒱 : Variants) (c : Dev nD) (bd : Option 𝒱.V) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x4096 .bf16) (harg5 : arg5.IsWhole) (arg6 : Memref sig .tc .vmem S1x128x4096 .fp8e4m3) (harg6 : arg6.IsWhole) (arg7 : Memref sig .tc .vmem S1x1x1x32 .f32) (harg7 : arg7.IsWhole) (arg8 : Memref sig .tc .vmem S1x128x1024 .fp8e4m3) (harg8 : arg8.IsWhole) (arg9 : Memref sig .tc .vmem S1x1x1x8 .f32) (harg9 : arg9.IsWhole) (arg10 : Memref sig .tc .vmem S1x128x1024 .fp8e4m3) (harg10 : arg10.IsWhole) (arg11 : Memref sig .tc .vmem S1x1x1x8 .f32) (harg11 : arg11.IsWhole) (arg12 : Memref sig .tc .vmem S8x512x128 .fp8e4m3) (harg12 : arg12.IsWhole) (arg13 : Memref sig .tc .vmem S16x8x128x128 .fp8e4m3) (harg13 : arg13.IsWhole) (arg14 : Memref sig .tc .vmem S16x8x128x128 .fp8e4m3) (harg14 : arg14.IsWhole) (arg15 : Memref sig .tc .vmem S8x512 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole) (arg1 : BitVec 32) (v3634 : IVec S128x512 1) (k0_t1 : Fin k0_t1_loop.trips) (arg19 : BitVec 32)  (v3717 : FVec F S8x512 .f32) (X_arg13 : BufTy.Contents (Elt F) arg13.view.ty) (X_arg14 : BufTy.Contents (Elt F) arg14.view.ty) (X_arg16 : BufTy.Contents (Elt F) arg16.view.ty) (X_arg17 : BufTy.Contents (Elt F) arg17.view.ty) (G_arg18 : BufTy.Contents (Elt F) arg18.view.ty)  (q : Vec F S8x512x128 .fp8e4m3) (cq : Vec F S8x512 .f32) (mask : IVec S128x512 1) (ib : Fin 16)
    (hG : arg18.view.read (Elt F) G_arg18 = k0_pay20) (k : ℕ) (hk : k ≤ (k0_t4_loop i).trips) :
    (st_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3634 k0_t1 arg19 (k0_pay10 (qt q (Fin.ofNat 8 k0_t1.val))) (ct cq (Fin.ofNat 8 k0_t1.val)) (hSh q (arg13.view.read _ X_arg13) cq (arg16.view.read _ X_arg16) mask ib (Fin.ofNat 8 k0_t1.val)) v3717 X_arg13 X_arg14 X_arg16 X_arg17 G_arg18  k0_pay21 k).1 = hL q (arg13.view.read _ X_arg13) cq (arg16.view.read _ X_arg16) mask ib (Fin.ofNat 8 k0_t1.val) k
    ∧ arg18.view.read (Elt F) (arg18.view.writes (Elt F) G_arg18 (st_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3634 k0_t1 arg19 (k0_pay10 (qt q (Fin.ofNat 8 k0_t1.val))) (ct cq (Fin.ofNat 8 k0_t1.val)) (hSh q (arg13.view.read _ X_arg13) cq (arg16.view.read _ X_arg16) mask ib (Fin.ofNat 8 k0_t1.val)) v3717 X_arg13 X_arg14 X_arg16 X_arg17 G_arg18  k0_pay21 k).2)
      = hAcc q (arg13.view.read _ X_arg13) (arg14.view.read _ X_arg14) cq (arg16.view.read _ X_arg16) (arg17.view.read _ X_arg17) mask ib (Fin.ofNat 8 k0_t1.val) k := by
  induction k with
  | zero => exact ⟨rfl, hG⟩
  | succ k ih =>
    have h := st_k0_t4_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3634 k0_t1 arg19 (k0_pay10 (qt q (Fin.ofNat 8 k0_t1.val))) (ct cq (Fin.ofNat 8 k0_t1.val)) (hSh q (arg13.view.read _ X_arg13) cq (arg16.view.read _ X_arg16) mask ib (Fin.ofNat 8 k0_t1.val)) v3717 X_arg13 X_arg14 X_arg16 X_arg17 G_arg18  k0_pay21 ⟨k, hk⟩
    obtain ⟨ih1, ih2⟩ := ih (Nat.le_of_lt hk)
    rw [show (k + 1) = (⟨k, hk⟩ : Fin (k0_t4_loop i).trips).val + 1 from rfl, h]
    constructor
    · rw [tripR4_eq]; dsimp only; rw [ih1]; rfl
    · dsimp only
      rw [View.writes_append, tripL4_eq, ih2]
      rfl

end Cert.KernelIdeal.Strong

end
-- ==== Proof.Strong.Loop.lean ====
module

public import proofs.«01_k».proof.Proof.Gen.KernelIdeal.Frame
public import proofs.«01_k».proof.Proof.Gen.KernelIdeal.Loops
public import Idealize.ShloMosaic.Lib.Claim
public import proofs.«01_k».proof.Proof.Strong.Trips

@[expose] public section

set_option maxRecDepth 16384

noncomputable section

namespace Cert.KernelIdeal.Strong

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The output tile of head `4 * j + g`. -/
def yt {e : EltTy} (X : Vec F S1x128x4096 e) (j : Fin 8) (g : Fin 4) : Vec F S1x128x128 e :=
  View.ld X (Rect.unit (s := S1x128x4096) ![0, 0, 512 * j.val + 128 * g.val] S1x128x128.size (by
    intro a; fin_cases a <;> simp [Matrix.vecHead, Matrix.vecTail] <;> omega))

set_option maxHeartbeats 4000000 in
set_option warn.classDefReducibility false in
/-- The outer loop over the key/value heads: the tiles of the heads done so far. -/
@[sl_loop] def loopInv_k0_t1 (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x4096 .bf16) (harg5 : arg5.IsWhole) (arg6 : Memref sig .tc .vmem S1x128x4096 .fp8e4m3) (harg6 : arg6.IsWhole) (arg7 : Memref sig .tc .vmem S1x1x1x32 .f32) (harg7 : arg7.IsWhole) (arg8 : Memref sig .tc .vmem S1x128x1024 .fp8e4m3) (harg8 : arg8.IsWhole) (arg9 : Memref sig .tc .vmem S1x1x1x8 .f32) (harg9 : arg9.IsWhole) (arg10 : Memref sig .tc .vmem S1x128x1024 .fp8e4m3) (harg10 : arg10.IsWhole) (arg11 : Memref sig .tc .vmem S1x1x1x8 .f32) (harg11 : arg11.IsWhole) (arg12 : Memref sig .tc .vmem S8x512x128 .fp8e4m3) (harg12 : arg12.IsWhole) (arg13 : Memref sig .tc .vmem S16x8x128x128 .fp8e4m3) (harg13 : arg13.IsWhole) (arg14 : Memref sig .tc .vmem S16x8x128x128 .fp8e4m3) (harg14 : arg14.IsWhole) (arg15 : Memref sig .tc .vmem S8x512 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole) (arg1 : BitVec 32) (v3616 : IVec S128x512 32) (v3633 : IVec S128x512 32) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 where
  inv := fun k _ => iprop((arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (∃ f, (arg5.view.loc (c : Thread nD τ) ↦[arg5.view.set]{fullShare} f) ∗ ⌜∀ (j : Fin 8) (g : Fin 4), j.val < k → yt (arg5.view.read (Elt F) f) j g = hY (arg12.view.read _ X12) (arg13.view.read _ X13) (arg14.view.read _ X14) (arg15.view.read _ X15) (arg16.view.read _ X16) (arg17.view.read _ X17) (k0_pay1 v3616 v3633) (Fin.ofNat 16 (i 1).val) j g⌝) ∗ (∃ f, (arg18.view.loc (c : Thread nD τ) ↦[arg18.view.set]{fullShare} f)))
  step := fun k acc => by
    unfold k0_t1_body
    simp only [k0_part1_eq_skeleton, k0_part2_eq_skeleton, k0_part3_eq_skeleton, k0_part4_eq_skeleton, k0_part5_eq_skeleton, k0_part6_eq_skeleton]
    iintro ⟨H12, H13, H14, H15, H16, H17, ⟨%f5, H5, %h5⟩, ⟨%f18, H18⟩⟩
    sl_exec
    sl_step
    isplitl [H12]; · iexact H12
    isplitl [H13]; · iexact H13
    isplitl [H14]; · iexact H14
    isplitl [H15]; · iexact H15
    isplitl [H16]; · iexact H16
    isplitl [H17]; · iexact H17
    isplitl [H5]
    · iexists _
      isplitl [H5]
      · iexact H5
      ipureintro
      have hk : k.val < 8 := t1_trips ▸ k.2
      have hi : (i 1).val < 16 := (i 1).2
      have mk : k.val % 8 = k.val := Nat.mod_eq_of_lt hk
      have mi : (i 1).val % 16 = (i 1).val := Nat.mod_eq_of_lt hi
      have hq : ∀ h, View.readAt (Elt F) arg12.view (Rect.unit (s := S8x512x128) (k0_off10 k) S1x512x128.size h).toLoadRect X12 = qt (arg12.view.read (Elt F) X12) (Fin.ofNat 8 k.val) := fun h =>
        ld_congr (arg12.view.read (Elt F) X12) _ h _ (by rw [k0_off10_eq]; show _ = ![k.val % 8, 0, 0]; rw [mk])
      have hc : ∀ h, View.readAt (Elt F) arg15.view (Rect.unit (s := S8x512) (k0_off11 k) S1x512.size h).toLoadRect X15 = ct (arg15.view.read (Elt F) X15) (Fin.ofNat 8 k.val) := fun h =>
        ld_congr (arg15.view.read (Elt F) X15) _ h _ (by rw [k0_off11_eq]; show _ = ![k.val % 8, 0]; rw [mk])
      have hkd : ∀ h, View.readAt (Elt F) arg13.view (Rect.unit (s := S16x8x128x128) (k0_off16 i k) S1x1x128x128.size h).toLoadRect X13 = kt (arg13.view.read (Elt F) X13) (Fin.ofNat 16 (i 1).val) (Fin.ofNat 8 k.val) := fun h =>
        ld_congr (arg13.view.read (Elt F) X13) _ h _ (by rw [k0_off16_eq]; show _ = ![(i 1).val % 16, k.val % 8, 0, 0]; rw [mk, mi])
      have hvd : ∀ h, View.readAt (Elt F) arg14.view (Rect.unit (s := S16x8x128x128) (k0_off16 i k) S1x1x128x128.size h).toLoadRect X14 = kt (arg14.view.read (Elt F) X14) (Fin.ofNat 16 (i 1).val) (Fin.ofNat 8 k.val) := fun h =>
        ld_congr (arg14.view.read (Elt F) X14) _ h _ (by rw [k0_off16_eq]; show _ = ![(i 1).val % 16, k.val % 8, 0, 0]; rw [mk, mi])
      have hkr : ∀ h, View.readAt (Elt F) arg16.view (Rect.unit (s := S128x512) (k0_off17 i k) S1x512.size h).toLoadRect X16 = row (arg16.view.read (Elt F) X16) (Fin.ofNat 16 (i 1).val) (Fin.ofNat 8 k.val) := fun h =>
        ld_congr (arg16.view.read (Elt F) X16) _ h _ (by rw [k0_off17_eq]; show _ = ![8 * ((i 1).val % 16) + k.val % 8, 0]; rw [mk, mi])
      have hvr : ∀ h, View.readAt (Elt F) arg17.view (Rect.unit (s := S128x512) (k0_off17 i k) S1x512.size h).toLoadRect X17 = row (arg17.view.read (Elt F) X17) (Fin.ofNat 16 (i 1).val) (Fin.ofNat 8 k.val) := fun h =>
        ld_congr (arg17.view.read (Elt F) X17) _ h _ (by rw [k0_off17_eq]; show _ = ![8 * ((i 1).val % 16) + k.val % 8, 0]; rw [mk, mi])
      have n2 : Scf.trips (k0_t2_loop i).lb (k0_t2_loop i).ub (k0_t2_loop i).st = (i 1).val := t2_trips i
      have n3 : Scf.trips (k0_t3_loop i).lb (k0_t3_loop i).ub (k0_t3_loop i).st = 0 := t3_trips i
      have n4 : Scf.trips (k0_t4_loop i).lb (k0_t4_loop i).ub (k0_t4_loop i).st = (i 1).val := t4_trips i
      have n5 : Scf.trips (k0_t5_loop i).lb (k0_t5_loop i).ub (k0_t5_loop i).st = 0 := t5_trips i
      have mv : ((Fin.ofNat 16 (i 1).val) : Fin 16).val = (i 1).val := mi
      have e2 := fun a b => st2_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 (k0_pay1 v3616 v3633) a b k X13 X16 (arg12.view.read (Elt F) X12) (i 1).val (le_of_eq (t2_trips i).symm)
      have e3 : loopInv_k0_t1.sl.r_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 X12 X13 X15 X16 k = hT (arg12.view.read (Elt F) X12) (arg13.view.read (Elt F) X13) (arg15.view.read (Elt F) X15) (arg16.view.read (Elt F) X16) (k0_pay1 v3616 v3633) (Fin.ofNat 16 (i 1).val) (Fin.ofNat 8 k.val) := by
        unfold loopInv_k0_t1.sl.r_2 hT
        rw [n3, n2, hq, hc, hkd, hkr, mv]
        exact congrArg (fun z => k0_pay14 (k0_pay1 v3616 v3633) _ _ z _ _) (e2 _ _)
      have e4 : loopInv_k0_t1.sl.r_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 X12 X13 X15 X16 k = hE (arg12.view.read (Elt F) X12) (arg13.view.read (Elt F) X13) (arg15.view.read (Elt F) X15) (arg16.view.read (Elt F) X16) (k0_pay1 v3616 v3633) (Fin.ofNat 16 (i 1).val) (Fin.ofNat 8 k.val) := by
        unfold loopInv_k0_t1.sl.r_3 hE
        rw [n3, n2, hq, hc, hkd, hkr, mv]
        exact congrArg (fun z => k0_pay15 (k0_pay1 v3616 v3633) _ _ z _ _) (e2 _ _)
      have e5 : loopInv_k0_t1.sl.r_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 X12 X13 X15 X16 k = hEs (arg12.view.read (Elt F) X12) (arg13.view.read (Elt F) X13) (arg15.view.read (Elt F) X15) (arg16.view.read (Elt F) X16) (k0_pay1 v3616 v3633) (Fin.ofNat 16 (i 1).val) (Fin.ofNat 8 k.val) := by
        unfold loopInv_k0_t1.sl.r_4 hEs
        rw [n3, n2, hq, hc, hkd, hkr, mv]
        exact congrArg (fun z => k0_pay16 (k0_pay1 v3616 v3633) _ _ z _ _) (e2 _ _)
      have e6 : loopInv_k0_t1.sl.r_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 X12 X13 X15 X16 k = hPs (arg12.view.read (Elt F) X12) (arg13.view.read (Elt F) X13) (arg15.view.read (Elt F) X15) (arg16.view.read (Elt F) X16) (k0_pay1 v3616 v3633) (Fin.ofNat 16 (i 1).val) (Fin.ofNat 8 k.val) := by
        unfold loopInv_k0_t1.sl.r_5 hPs
        rw [e4, e5]; rfl
      have e7 : loopInv_k0_t1.sl.r_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 X12 X13 X15 X16 k = hSh (arg12.view.read (Elt F) X12) (arg13.view.read (Elt F) X13) (arg15.view.read (Elt F) X15) (arg16.view.read (Elt F) X16) (k0_pay1 v3616 v3633) (Fin.ofNat 16 (i 1).val) (Fin.ofNat 8 k.val) := by
        unfold loopInv_k0_t1.sl.r_6 hSh
        rw [e3, e4, e5]; rfl
      have e8 : loopInv_k0_t1.sl.r arg12 X12 k = k0_pay10 (qt (arg12.view.read (Elt F) X12) (Fin.ofNat 8 k.val)) := by
        unfold loopInv_k0_t1.sl.r; rw [hq]
      have e9 : loopInv_k0_t1.sl.r_1 arg15 X15 k = ct (arg15.view.read (Elt F) X15) (Fin.ofNat 8 k.val) := by
        unfold loopInv_k0_t1.sl.r_1; rw [hc]
      have hG : arg18.view.read (Elt F) (arg18.view.writes (Elt F) arg18.view.junk loopInv_k0_t1.sl.H18_1) = k0_pay20 := read_whole _ _ _ _
      have f4 := st4_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 (k0_pay1 v3616 v3633) k (loopInv_k0_t1.sl.arg19 k) k0_pay21 X13 X14 X16 X17 _ (arg12.view.read (Elt F) X12) (arg15.view.read (Elt F) X15) (k0_pay1 v3616 v3633) (Fin.ofNat 16 (i 1).val) hG (i 1).val (le_of_eq (t4_trips i).symm)
      have e10 : loopInv_k0_t1.sl.r_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 X12 X13 X14 X15 X16 X17 k = hL (arg12.view.read (Elt F) X12) (arg13.view.read (Elt F) X13) (arg15.view.read (Elt F) X15) (arg16.view.read (Elt F) X16) (k0_pay1 v3616 v3633) (Fin.ofNat 16 (i 1).val) (Fin.ofNat 8 k.val) ((Fin.ofNat 16 (i 1).val) : Fin 16).val := by
        unfold loopInv_k0_t1.sl.r_7
        rw [n5, n4, e7, e8, e9, mv]
        exact f4.1
      have e11 : loopInv_k0_t1.sl.r_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 X12 X13 X15 X16 k = hP (arg12.view.read (Elt F) X12) (arg13.view.read (Elt F) X13) (arg15.view.read (Elt F) X15) (arg16.view.read (Elt F) X16) (k0_pay1 v3616 v3633) (Fin.ofNat 16 (i 1).val) (Fin.ofNat 8 k.val) := by
        unfold loopInv_k0_t1.sl.r_8 hP
        rw [e7, e8, e9, hkd, hkr]
      have e12 : loopInv_k0_t1.sl.r_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 X12 X13 X14 X15 X16 k = k0_pay25 (k0_pay1 v3616 v3633) (k0_pay10 (qt (arg12.view.read (Elt F) X12) (Fin.ofNat 8 k.val))) (ct (arg15.view.read (Elt F) X15) (Fin.ofNat 8 k.val)) (hSh (arg12.view.read (Elt F) X12) (arg13.view.read (Elt F) X13) (arg15.view.read (Elt F) X15) (arg16.view.read (Elt F) X16) (k0_pay1 v3616 v3633) (Fin.ofNat 16 (i 1).val) (Fin.ofNat 8 k.val)) (kt (arg13.view.read (Elt F) X13) (Fin.ofNat 16 (i 1).val) (Fin.ofNat 8 k.val)) (row (arg16.view.read (Elt F) X16) (Fin.ofNat 16 (i 1).val) (Fin.ofNat 8 k.val)) (kt (arg14.view.read (Elt F) X14) (Fin.ofNat 16 (i 1).val) (Fin.ofNat 8 k.val)) := by
        unfold loopInv_k0_t1.sl.r_9
        rw [e7, e8, e9, hkd, hkr, hvd]
      have e13 : loopInv_k0_t1.sl.v3755 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 X12 X13 X14 X15 X16 X17 k = hAcc (arg12.view.read (Elt F) X12) (arg13.view.read (Elt F) X13) (arg14.view.read (Elt F) X14) (arg15.view.read (Elt F) X15) (arg16.view.read (Elt F) X16) (arg17.view.read (Elt F) X17) (k0_pay1 v3616 v3633) (Fin.ofNat 16 (i 1).val) (Fin.ofNat 8 k.val) ((Fin.ofNat 16 (i 1).val) : Fin 16).val := by
        unfold loopInv_k0_t1.sl.v3755
        rw [n5, n4, e7, e8, e9, mv]
        refine (ld_whole _).trans ?_
        refine Eq.trans ?_ f4.2
        rw [← View.writes_append]
        rfl
      have e14 : loopInv_k0_t1.sl.v3772 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 X12 X13 X14 X15 X16 X17 k = hAccD (arg12.view.read (Elt F) X12) (arg13.view.read (Elt F) X13) (arg14.view.read (Elt F) X14) (arg15.view.read (Elt F) X15) (arg16.view.read (Elt F) X16) (arg17.view.read (Elt F) X17) (k0_pay1 v3616 v3633) (Fin.ofNat 16 (i 1).val) (Fin.ofNat 8 k.val) := by
        unfold loopInv_k0_t1.sl.v3772
        refine (ld_whole _).trans ?_
        unfold loopInv_k0_t1.sl.H18_1_1
        refine (read_whole _ _ _ _).trans ?_
        rw [e12, e13, hvr]; rfl
      have e15 : loopInv_k0_t1.sl.r_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3616 v3633 X12 X13 X14 X15 X16 X17 k = hOut (arg12.view.read (Elt F) X12) (arg13.view.read (Elt F) X13) (arg14.view.read (Elt F) X14) (arg15.view.read (Elt F) X15) (arg16.view.read (Elt F) X16) (arg17.view.read (Elt F) X17) (k0_pay1 v3616 v3633) (Fin.ofNat 16 (i 1).val) (Fin.ofNat 8 k.val) := by
        unfold loopInv_k0_t1.sl.r_10
        rw [e6, e10, e11, e14]; rfl
      rw [e15, e6, e10, e11, e14]
      intro j g hj
      have o := fun r => k0_off22_eq k r
      funext y
      have y0 : (y 0).val < 1 := (y 0).2
      have y1 : (y 1).val < 128 := (y 1).2
      have y2 : (y 2).val < 128 := (y 2).2
      by_cases hjk : j.val = k.val
      · obtain rfl : j = (Fin.ofNat 8 k.val) := Fin.ext (hjk.trans mk.symm)
        have hx : ∀ (r : Fin 4) (z : S1x128x4096.Idx), z = (Rect.unit (s := S1x128x4096) ![0, 0, 512 * ((Fin.ofNat 8 k.val) : Fin 8).val + 128 * r.val] S1x128x128.size (by
            intro a; fin_cases a <;> simp [Matrix.vecHead, Matrix.vecTail] <;> omega)).emb y → ∀ a, (z a).val = (![0, 0, 512 * k.val + 128 * r.val] : Fin 3 → ℕ) a + (y a).val := by
          rintro r z rfl a
          show (![0, 0, 512 * (k.val % 8) + 128 * r.val] : Fin 3 → ℕ) a + 1 * (y a).val = _
          rw [Nat.one_mul, mk]
        have hz : ∀ g : Fin 4, (((Rect.unit (s := S1x128x4096) ![0, 0, 512 * ((Fin.ofNat 8 k.val) : Fin 8).val + 128 * g.val] S1x128x128.size (by
            intro a; fin_cases a <;> simp [Matrix.vecHead, Matrix.vecTail] <;> omega)).emb y) 2).val = 512 * k.val + 128 * g.val + (y 2).val := fun g => hx g _ rfl 2
        fin_cases g
        · refine (View.read_writes_cons_unit_of_not_mem _ _ _ _ _ _ (o 3) 2 (.inl ?_)).trans ?_
          · exact lt_of_eq_of_lt (hz 0) (by show _ < 512 * k.val + 128 * 3; simp; omega)
          refine (View.read_writes_cons_unit_of_not_mem _ _ _ _ _ _ (o 2) 2 (.inl ?_)).trans ?_
          · exact lt_of_eq_of_lt (hz 0) (by show _ < 512 * k.val + 128 * 2; simp; omega)
          refine (View.read_writes_cons_unit_of_not_mem _ _ _ _ _ _ (o 1) 2 (.inl ?_)).trans ?_
          · exact lt_of_eq_of_lt (hz 0) (by show _ < 512 * k.val + 128 * 1; simp; omega)
          refine (View.read_writes_cons_unit_of_mem (arg5.view) _ _ _ _ _ y (o 0) ?_).trans ?_
          · exact hx 0 _ rfl
          · rfl
        · refine (View.read_writes_cons_unit_of_not_mem _ _ _ _ _ _ (o 3) 2 (.inl ?_)).trans ?_
          · exact lt_of_eq_of_lt (hz 1) (by show _ < 512 * k.val + 128 * 3; simp; omega)
          refine (View.read_writes_cons_unit_of_not_mem _ _ _ _ _ _ (o 2) 2 (.inl ?_)).trans ?_
          · exact lt_of_eq_of_lt (hz 1) (by show _ < 512 * k.val + 128 * 2; simp; omega)
          refine (View.read_writes_cons_unit_of_mem (arg5.view) _ _ _ _ _ y (o 1) ?_).trans ?_
          · exact hx 1 _ rfl
          · rfl
        · refine (View.read_writes_cons_unit_of_not_mem _ _ _ _ _ _ (o 3) 2 (.inl ?_)).trans ?_
          · exact lt_of_eq_of_lt (hz 2) (by show _ < 512 * k.val + 128 * 3; simp; omega)
          refine (View.read_writes_cons_unit_of_mem (arg5.view) _ _ _ _ _ y (o 2) ?_).trans ?_
          · exact hx 2 _ rfl
          · rfl
        · refine (View.read_writes_cons_unit_of_mem (arg5.view) _ _ _ _ _ y (o 3) ?_).trans ?_
          · exact hx 3 _ rfl
          · rfl
      · have hlt : j.val < k.val := by omega
        have hz : (((Rect.unit (s := S1x128x4096) ![0, 0, 512 * j.val + 128 * g.val] S1x128x128.size (by
            intro a; fin_cases a <;> simp [Matrix.vecHead, Matrix.vecTail] <;> omega)).emb y) 2).val = 512 * j.val + 128 * g.val + (y 2).val := congrArg (_ + ·) (Nat.one_mul _)
        have hm : ∀ r : Fin 4, 512 * j.val + 128 * g.val + (y 2).val < 512 * k.val + 128 * r.val := fun r => by
          have := g.2; omega
        refine (View.read_writes_cons_unit_of_not_mem _ _ _ _ _ _ (o 3) 2 (.inl (lt_of_eq_of_lt hz (hm 3)))).trans ?_
        refine (View.read_writes_cons_unit_of_not_mem _ _ _ _ _ _ (o 2) 2 (.inl (lt_of_eq_of_lt hz (hm 2)))).trans ?_
        refine (View.read_writes_cons_unit_of_not_mem _ _ _ _ _ _ (o 1) 2 (.inl (lt_of_eq_of_lt hz (hm 1)))).trans ?_
        refine (View.read_writes_cons_unit_of_not_mem _ _ _ _ _ _ (o 0) 2 (.inl (lt_of_eq_of_lt hz (hm 0)))).trans ?_
        exact congrFun (h5 j g hlt) y
    iexists _; iexact H18

end Cert.KernelIdeal.Strong

end
-- ==== Proof.Strong.Tile.lean ====
module

public import proofs.«01_k».proof.Proof.Gen.KernelIdeal.Frame
public import proofs.«01_k».proof.Proof.Gen.KernelIdeal.Loops
public import Idealize.ShloMosaic.Lib.Claim
public import proofs.«01_k».proof.Proof.Strong.Loop

@[expose] public section

set_option maxRecDepth 16384

noncomputable section

namespace Cert.KernelIdeal.Strong

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The tile of query head `h` in a block of 128 rows. -/
def xt {e : EltTy} (X : Vec F S1x128x4096 e) (h : Fin 32) : Vec F S1x128x128 e :=
  View.ld X (Rect.unit (s := S1x128x4096) ![0, 0, 128 * h.val] S1x128x128.size (by
    intro a; fin_cases a <;> simp [Matrix.vecHead, Matrix.vecTail] <;> omega))

/-- The tile of key/value head `j` in a block of 128 rows. -/
def ut {e : EltTy} (X : Vec F S1x128x1024 e) (j : Fin 8) : Vec F S1x128x128 e :=
  View.ld X (Rect.unit (s := S1x128x1024) ![0, 0, 128 * j.val] S1x128x128.size (by
    intro a; fin_cases a <;> simp [Matrix.vecHead, Matrix.vecTail] <;> omega))

/-- A tile's scale exponent. -/
def ten (T : Vec F S1x128x128 .bf16) : IVec S1x1 32 := k0_pay33 T
/-- A tile's scale. -/
def scl (T : Vec F S1x128x128 .bf16) : FVec F S1x1 .f32 := k0_pay34 (ten T) 127#32
/-- A tile over its scale, clipped. -/
def tcl (T : Vec F S1x128x128 .bf16) : FVec F S128x128 .f32 := k0_pay44 (k0_pay32 T) (subi (broadcast S1x1 0#32) (ten T))
/-- A tile's codes. -/
def code (T : Vec F S1x128x128 .bf16) : FVec F S128x128 .fp8e4m3 := truncf .fp8e4m3 (tcl T) bitsLt_fp8e4m3_f32
def code3 (T : Vec F S1x128x128 .bf16) : FVec F S1x128x128 .fp8e4m3 := shapeCast S1x128x128 (code T) shapeCasts_S128x128_S1x128x128
def code4 (T : Vec F S1x128x128 .bf16) : FVec F S1x1x128x128 .fp8e4m3 := shapeCast S1x1x128x128 (code T) shapeCasts_S128x128_S1x1x128x128
/-- The codes transposed. -/
def codeT4 (T : Vec F S1x128x128 .bf16) : FVec F S1x1x128x128 .fp8e4m3 :=
  shapeCast S1x1x128x128 (truncf .fp8e4m3 (transpose S128x128 [1, 0] (tcl T) transposes_S128x128_p1_0_S128x128) bitsLt_fp8e4m3_f32 : FVec F S128x128 .fp8e4m3) shapeCasts_S128x128_S1x1x128x128
/-- The scale along a row of 512. -/
def row512 (T : Vec F S1x128x128 .bf16) : FVec F S1x512 .f32 := k0_pay47 (scl T)
/-- The scale times the folded constant along a row of 128. -/
def cqr (T : Vec F S1x128x128 .bf16) : FVec F S1x128 .f32 := k0_pay545 (scl T)
/-- One lane of a row of scales set. -/
def sel (n : ℕ) (T : Vec F S1x128x128 .bf16) (r : FVec F S1x128 .f32) : FVec F S1x128 .f32 :=
  select (cmpi .eq (iota .tc S1x128 32 [1] iota_S1x128_d1_w32) (broadcast S1x128 (BitVec.ofNat 32 n)))
    (broadcastTo S1x128 (shapeCast S1x1 (scl T) shapeCasts_S1x1_S1x1) broadcasts_S1x1_S1x128) r
/-- The row of scales of the first `n` tiles. -/
def selN (T : ℕ → Vec F S1x128x128 .bf16) : ℕ → FVec F S1x128 .f32
  | 0 => k0_pay31
  | n + 1 => sel n (T n) (selN T n)
def scales8 (X : Vec F S1x128x1024 .bf16) : FVec F S1x1x1x8 .f32 :=
  shapeCast S1x1x1x8 (extractStridedSlice S1x8 ![0, 0] (selN (fun n => ut X (Fin.ofNat 8 n)) 8) slices_S1x128_o0_0_S1x8) shapeCasts_S1x8_S1x1x1x8
def scales32 (X : Vec F S1x128x4096 .bf16) : FVec F S1x1x1x32 .f32 :=
  shapeCast S1x1x1x32 (extractStridedSlice S1x32 ![0, 0] (selN (fun n => xt X (Fin.ofNat 32 n)) 32) slices_S1x128_o0_0_S1x32) shapeCasts_S1x32_S1x1x1x32

def off3 (w : ℕ) (h : Fin w) : Fin 3 → ℕ := ![0, 0, 128 * h.val]
def offQ (h : Fin 32) : Fin 3 → ℕ := ![h.val / 4, 128 * (h.val % 4), 0]
def offC (h : Fin 32) : Fin 2 → ℕ := ![h.val / 4, 128 * (h.val % 4)]
theorem inb3 (h : Fin 32) : ∀ a, off3 32 h a + S1x128x128.size a ≤ S1x128x4096.size a := by
  intro a; fin_cases a <;> simp [off3, Matrix.vecHead, Matrix.vecTail] <;> omega
theorem inb3' (h : Fin 8) : ∀ a, off3 8 h a + S1x128x128.size a ≤ S1x128x1024.size a := by
  intro a; fin_cases a <;> simp [off3, Matrix.vecHead, Matrix.vecTail] <;> omega
theorem inbQ (h : Fin 32) : ∀ a, offQ h a + S1x128x128.size a ≤ S8x512x128.size a := by
  intro a; fin_cases a <;> simp [offQ, Matrix.vecHead, Matrix.vecTail] <;> omega
theorem inbC (h : Fin 32) : ∀ a, offC h a + S1x128.size a ≤ S8x512.size a := by
  intro a; fin_cases a <;> simp [offC, Matrix.vecHead, Matrix.vecTail] <;> omega

end Cert.KernelIdeal.Strong

end
-- ==== Proof.Strong.Asm.lean ====
module

public import proofs.«01_k».proof.Proof.Gen.KernelIdeal.Frame
public import proofs.«01_k».proof.Proof.Gen.KernelIdeal.Loops
public import Idealize.ShloMosaic.Lib.Claim
public import proofs.«01_k».proof.Proof.Strong.Tile

@[expose] public section

set_option maxRecDepth 16384

noncomputable section

namespace Cert.KernelIdeal.Strong

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

def ix2 (b : Fin 512) : S1x512.Idx := fun a => match a with | ⟨0, _⟩ => ⟨0, Nat.one_pos⟩ | ⟨1, _⟩ => b
def ix2' (b : Fin 128) : S1x128.Idx := fun a => match a with | ⟨0, _⟩ => ⟨0, Nat.one_pos⟩ | ⟨1, _⟩ => b
def ix3 (a b : Fin 128) : S1x128x128.Idx := fun x => match x with | ⟨0, _⟩ => ⟨0, Nat.one_pos⟩ | ⟨1, _⟩ => a | ⟨2, _⟩ => b
def ix4 (a b : Fin 128) : S1x1x128x128.Idx := fun x => match x with | ⟨0, _⟩ => ⟨0, Nat.one_pos⟩ | ⟨1, _⟩ => ⟨0, Nat.one_pos⟩ | ⟨2, _⟩ => a | ⟨3, _⟩ => b

theorem ix2_self (x : S1x512.Idx) : ix2 (x 1) = x := by
  funext a; match a with
  | ⟨0, _⟩ => exact Fin.ext (by have := (x 0).2; show 0 = (x 0).val; change (x 0).val < 1 at this; omega)
  | ⟨1, _⟩ => rfl
theorem ix2'_self (x : S1x128.Idx) : ix2' (x 1) = x := by
  funext a; match a with
  | ⟨0, _⟩ => exact Fin.ext (by have := (x 0).2; show 0 = (x 0).val; change (x 0).val < 1 at this; omega)
  | ⟨1, _⟩ => rfl
theorem ix3_self (x : S1x128x128.Idx) : ix3 (x 1) (x 2) = x := by
  funext a; match a with
  | ⟨0, _⟩ => exact Fin.ext (by have := (x 0).2; show 0 = (x 0).val; change (x 0).val < 1 at this; omega)
  | ⟨1, _⟩ => rfl
  | ⟨2, _⟩ => rfl
theorem ix4_self (x : S1x1x128x128.Idx) : ix4 (x 2) (x 3) = x := by
  funext a; match a with
  | ⟨0, _⟩ => exact Fin.ext (by have := (x 0).2; show 0 = (x 0).val; change (x 0).val < 1 at this; omega)
  | ⟨1, _⟩ => exact Fin.ext (by have := (x 1).2; show 0 = (x 1).val; change (x 1).val < 1 at this; omega)
  | ⟨2, _⟩ => rfl
  | ⟨3, _⟩ => rfl

/-- Arrays put together from their tiles. -/
def asm32 {e : EltTy} (P : Fin 32 → Vec F S1x128x128 e) : Vec F S1x128x4096 e := fun y =>
  P ⟨(y 2).val / 128, by have h : (y 2).val < 4096 := (y 2).2; omega⟩ (ix3 (y 1) ⟨(y 2).val % 128, Nat.mod_lt _ (by decide)⟩)
def asm8 {e : EltTy} (P : Fin 8 → Vec F S1x128x128 e) : Vec F S1x128x1024 e := fun y =>
  P ⟨(y 2).val / 128, by have h : (y 2).val < 1024 := (y 2).2; omega⟩ (ix3 (y 1) ⟨(y 2).val % 128, Nat.mod_lt _ (by decide)⟩)
def asmQ {e : EltTy} (P : Fin 32 → Vec F S1x128x128 e) : Vec F S8x512x128 e := fun y =>
  P ⟨4 * (y 0).val + (y 1).val / 128, by have h : (y 1).val < 512 := (y 1).2; have h' : (y 0).val < 8 := (y 0).2; omega⟩
    (ix3 ⟨(y 1).val % 128, Nat.mod_lt _ (by decide)⟩ (y 2))
def asmC {e : EltTy} (P : Fin 32 → Vec F S1x128 e) : Vec F S8x512 e := fun y =>
  P ⟨4 * (y 0).val + (y 1).val / 128, by have h : (y 1).val < 512 := (y 1).2; have h' : (y 0).val < 8 := (y 0).2; omega⟩
    (ix2' ⟨(y 1).val % 128, Nat.mod_lt _ (by decide)⟩)
def asmK {e : EltTy} (P : Fin 16 → Fin 8 → Vec F S1x1x128x128 e) : Vec F S16x8x128x128 e := fun y =>
  P (y 0) (y 1) (ix4 (y 2) (y 3))
def asmR {e : EltTy} (P : Fin 16 → Fin 8 → Vec F S1x512 e) : Vec F S128x512 e := fun y =>
  P ⟨(y 0).val / 8, by have h : (y 0).val < 128 := (y 0).2; omega⟩ ⟨(y 0).val % 8, Nat.mod_lt _ (by decide)⟩ (ix2 (y 1))

section Reads
variable {κ : Kind} {sp : Space} {e : EltTy}

/-- A list of tile stores read at an index of the `i`-th tile, when each other tile misses it along one of two axes. -/
theorem read_tiles2 {s : Shape} {NT : ℕ} (v : View sig κ sp s e) (f : v.ty.Contents (Elt F)) (tsz : Fin s.rank → ℕ) (off : Fin NT → Fin s.rank → ℕ)
    (inb : ∀ i a, off i a + tsz a ≤ s.size a) (P : Fin NT → (⟨s.rank, tsz⟩ : Shape).Idx → Elt F e) (y : s.Idx) (i : Fin NT)
    (x : (⟨s.rank, tsz⟩ : Shape).Idx) (ax ax' : Fin s.rank) (hx : ∀ a, (y a).val = off i a + (x a).val)
    (hdis : ∀ i' : Fin NT, i' ≠ i → ((y ax).val < off i' ax ∨ off i' ax + tsz ax ≤ (y ax).val) ∨ ((y ax').val < off i' ax' ∨ off i' ax' + tsz ax' ≤ (y ax').val)) :
    v.read (Elt F) (v.writes (Elt F) f (View.tilePieces tsz off inb P NT le_rfl)) y = P i x := by
  suffices H : ∀ (j : ℕ) (hj : j ≤ NT), i.val < j → v.read (Elt F) (v.writes (Elt F) f (View.tilePieces tsz off inb P j hj)) y = P i x from H NT le_rfl i.2
  intro j
  induction j with
  | zero => intro hj h; exact absurd h (Nat.not_lt_zero _)
  | succ j ih =>
    intro hj hi
    rw [View.tilePieces_succ]
    by_cases hn : (⟨j, hj⟩ : Fin NT) = i
    · subst hn
      exact View.read_writes_cons_unit_of_mem v f _ _ _ y x rfl hx
    · have hlt : i.val < j := by
        have : j ≠ i.val := fun h => hn (Fin.ext h)
        omega
      rcases hdis ⟨j, hj⟩ hn with h | h
      · rw [View.read_writes_cons_unit_of_not_mem v f _ _ _ y rfl ax h]; exact ih _ hlt
      · rw [View.read_writes_cons_unit_of_not_mem v f _ _ _ y rfl ax' h]; exact ih _ hlt

theorem read_asm32 (v : View sig κ sp S1x128x4096 e) (f : v.ty.Contents (Elt F)) (P : Fin 32 → Vec F S1x128x128 e) :
    v.read (Elt F) (v.writes (Elt F) f (View.tilePieces (s := S1x128x4096) S1x128x128.size (off3 32) inb3 P 32 le_rfl)) = asm32 P := by
  funext y
  have h : (y 2).val < 4096 := (y 2).2
  have h0 : (y 0).val < 1 := (y 0).2
  refine View.read_tilePieces v f S1x128x128.size (off3 32) inb3 P 32 le_rfl y ⟨(y 2).val / 128, by omega⟩ (by show (y 2).val / 128 < 32; omega)
    (ix3 (y 1) ⟨(y 2).val % 128, Nat.mod_lt _ (by decide)⟩) ?_ 2 ?_
  · intro a; match a with
    | ⟨0, _⟩ => show (y 0).val = 0 + 0; omega
    | ⟨1, _⟩ => show (y 1).val = 0 + (y 1).val; omega
    | ⟨2, _⟩ => show (y 2).val = 128 * ((y 2).val / 128) + (y 2).val % 128; omega
  · intro i' hi'
    show (y 2).val < 128 * i'.val ∨ 128 * i'.val + 128 ≤ (y 2).val
    have : i'.val ≠ (y 2).val / 128 := fun hh => hi' (Fin.ext hh)
    omega

theorem read_asm8 (v : View sig κ sp S1x128x1024 e) (f : v.ty.Contents (Elt F)) (P : Fin 8 → Vec F S1x128x128 e) :
    v.read (Elt F) (v.writes (Elt F) f (View.tilePieces (s := S1x128x1024) S1x128x128.size (off3 8) inb3' P 8 le_rfl)) = asm8 P := by
  funext y
  have h : (y 2).val < 1024 := (y 2).2
  have h0 : (y 0).val < 1 := (y 0).2
  refine View.read_tilePieces v f S1x128x128.size (off3 8) inb3' P 8 le_rfl y ⟨(y 2).val / 128, by omega⟩ (by show (y 2).val / 128 < 8; omega)
    (ix3 (y 1) ⟨(y 2).val % 128, Nat.mod_lt _ (by decide)⟩) ?_ 2 ?_
  · intro a; match a with
    | ⟨0, _⟩ => show (y 0).val = 0 + 0; omega
    | ⟨1, _⟩ => show (y 1).val = 0 + (y 1).val; omega
    | ⟨2, _⟩ => show (y 2).val = 128 * ((y 2).val / 128) + (y 2).val % 128; omega
  · intro i' hi'
    show (y 2).val < 128 * i'.val ∨ 128 * i'.val + 128 ≤ (y 2).val
    have : i'.val ≠ (y 2).val / 128 := fun hh => hi' (Fin.ext hh)
    omega

theorem read_asmQ (v : View sig κ sp S8x512x128 e) (f : v.ty.Contents (Elt F)) (P : Fin 32 → Vec F S1x128x128 e) :
    v.read (Elt F) (v.writes (Elt F) f (View.tilePieces (s := S8x512x128) S1x128x128.size offQ inbQ P 32 le_rfl)) = asmQ P := by
  funext y
  have h : (y 1).val < 512 := (y 1).2
  have h0 : (y 0).val < 8 := (y 0).2
  have hlt : 4 * (y 0).val + (y 1).val / 128 < 32 := by omega
  exact read_tiles2 v f S1x128x128.size offQ inbQ P y _ _ 0 1 (by
      intro a; match a with
      | ⟨0, _⟩ => show (y 0).val = (4 * (y 0).val + (y 1).val / 128) / 4 + 0; omega
      | ⟨1, _⟩ => show (y 1).val = 128 * ((4 * (y 0).val + (y 1).val / 128) % 4) + (y 1).val % 128; omega
      | ⟨2, _⟩ => show (y 2).val = 0 + (y 2).val; omega) (by
    intro i' hi'
    show ((y 0).val < i'.val / 4 ∨ i'.val / 4 + 1 ≤ (y 0).val) ∨ ((y 1).val < 128 * (i'.val % 4) ∨ 128 * (i'.val % 4) + 128 ≤ (y 1).val)
    have : i'.val ≠ 4 * (y 0).val + (y 1).val / 128 := fun hh => hi' (Fin.ext hh)
    omega)

theorem read_asmC (v : View sig κ sp S8x512 e) (f : v.ty.Contents (Elt F)) (P : Fin 32 → Vec F S1x128 e) :
    v.read (Elt F) (v.writes (Elt F) f (View.tilePieces (s := S8x512) S1x128.size offC inbC P 32 le_rfl)) = asmC P := by
  funext y
  have h : (y 1).val < 512 := (y 1).2
  have h0 : (y 0).val < 8 := (y 0).2
  exact read_tiles2 v f S1x128.size offC inbC P y _ _ 0 1 (by
      intro a; match a with
      | ⟨0, _⟩ => show (y 0).val = (4 * (y 0).val + (y 1).val / 128) / 4 + 0; omega
      | ⟨1, _⟩ => show (y 1).val = 128 * ((4 * (y 0).val + (y 1).val / 128) % 4) + (y 1).val % 128; omega) (by
    intro i' hi'
    show ((y 0).val < i'.val / 4 ∨ i'.val / 4 + 1 ≤ (y 0).val) ∨ ((y 1).val < 128 * (i'.val % 4) ∨ 128 * (i'.val % 4) + 128 ≤ (y 1).val)
    have : i'.val ≠ 4 * (y 0).val + (y 1).val / 128 := fun hh => hi' (Fin.ext hh)
    omega)

theorem inbK (ib : ℕ) (hib : ib < 16) (off : Fin 8 → Fin 4 → ℕ) (ho : ∀ j, off j = ![ib, j.val, 0, 0]) :
    ∀ j a, off j a + S1x1x128x128.size a ≤ S16x8x128x128.size a := by
  intro j a; rw [ho j]; have := j.2
  fin_cases a <;> simp [Matrix.vecHead, Matrix.vecTail] <;> omega
theorem inbR (ib : ℕ) (hib : ib < 16) (off : Fin 8 → Fin 2 → ℕ) (ho : ∀ j, off j = ![8 * ib + j.val, 0]) :
    ∀ j a, off j a + S1x512.size a ≤ S128x512.size a := by
  intro j a; rw [ho j]; have := j.2
  fin_cases a <;> simp [Matrix.vecHead, Matrix.vecTail] <;> omega

/-- A block's eight key (or value) tiles stored: its tiles are the new ones and the others are as before. -/
theorem kt_writes (v : View sig κ sp S16x8x128x128 e) (f : v.ty.Contents (Elt F)) (ib : Fin 16) (off : Fin 8 → Fin 4 → ℕ)
    (ho : ∀ j, off j = ![ib.val, j.val, 0, 0]) (P : Fin 8 → Vec F S1x1x128x128 e) (kb : Fin 16) (j : Fin 8) :
    kt (v.read (Elt F) (v.writes (Elt F) f (View.tilePieces (s := S16x8x128x128) S1x1x128x128.size off (inbK ib.val ib.2 off ho) P 8 le_rfl))) kb j
      = if kb = ib then P j else kt (v.read (Elt F) f) kb j := by
  obtain rfl : off = fun j => ![ib.val, j.val, 0, 0] := funext ho
  funext x
  have x0 : (x 0).val < 1 := (x 0).2
  have x1 : (x 1).val < 1 := (x 1).2
  split_ifs with h
  · subst h
    refine View.read_tilePieces v f S1x1x128x128.size _ _ P 8 le_rfl _ j j.2 x (fun a => ?_) 1 ?_
    · show (![kb.val, j.val, 0, 0] : Fin 4 → ℕ) a + 1 * (x a).val = _
      rw [Nat.one_mul]
    · intro i' hi'
      have : i'.val ≠ j.val := fun hh => hi' (Fin.ext hh)
      show j.val + 1 * (x 1).val < i'.val ∨ i'.val + 1 ≤ j.val + 1 * (x 1).val
      omega
  · refine View.read_tilePieces_miss v f S1x1x128x128.size _ _ P 8 le_rfl _ 0 ?_
    intro i' hi'
    have : kb.val ≠ ib.val := fun hh => h (Fin.ext hh)
    show kb.val + 1 * (x 0).val < ib.val ∨ ib.val + 1 ≤ kb.val + 1 * (x 0).val
    omega

theorem row_writes (v : View sig κ sp S128x512 .f32) (f : v.ty.Contents (Elt F)) (ib : Fin 16) (off : Fin 8 → Fin 2 → ℕ)
    (ho : ∀ j, off j = ![8 * ib.val + j.val, 0]) (P : Fin 8 → Vec F S1x512 .f32) (kb : Fin 16) (j : Fin 8) :
    row (v.read (Elt F) (v.writes (Elt F) f (View.tilePieces (s := S128x512) S1x512.size off (inbR ib.val ib.2 off ho) P 8 le_rfl))) kb j
      = if kb = ib then P j else row (v.read (Elt F) f) kb j := by
  obtain rfl : off = fun j => ![8 * ib.val + j.val, 0] := funext ho
  funext x
  have x0 : (x 0).val < 1 := (x 0).2
  split_ifs with h
  · subst h
    refine View.read_tilePieces v f S1x512.size _ _ P 8 le_rfl _ j j.2 x (fun a => ?_) 0 ?_
    · show (![8 * kb.val + j.val, 0] : Fin 2 → ℕ) a + 1 * (x a).val = _
      rw [Nat.one_mul]
    · intro i' hi'
      have : i'.val ≠ j.val := fun hh => hi' (Fin.ext hh)
      show 8 * kb.val + j.val + 1 * (x 0).val < 8 * kb.val + i'.val ∨ 8 * kb.val + i'.val + 1 ≤ 8 * kb.val + j.val + 1 * (x 0).val
      omega
  · refine View.read_tilePieces_miss v f S1x512.size _ _ P 8 le_rfl _ 0 ?_
    intro i' hi'
    have : kb.val ≠ ib.val := fun hh => h (Fin.ext hh)
    have := j.2
    show 8 * kb.val + j.val + 1 * (x 0).val < 8 * ib.val + i'.val ∨ 8 * ib.val + i'.val + 1 ≤ 8 * kb.val + j.val + 1 * (x 0).val
    omega

end Reads

theorem kt_asmK {e : EltTy} (P : Fin 16 → Fin 8 → Vec F S1x1x128x128 e) (kb : Fin 16) (j : Fin 8) : kt (asmK P) kb j = P kb j := by
  funext x
  have x0 : (x 0).val < 1 := (x 0).2
  have x1 : (x 1).val < 1 := (x 1).2
  have hp : ∀ (a a' : Fin 16) (b b' : Fin 8) (z z' : S1x1x128x128.Idx), a = a' → b = b' → z = z' → P a b z = P a' b' z' := by
    rintro _ _ _ _ _ _ rfl rfl rfl; rfl
  refine hp _ _ _ _ _ _ (Fin.ext (by show kb.val + 1 * (x 0).val = kb.val; omega)) (Fin.ext (by show j.val + 1 * (x 1).val = j.val; omega)) (Eq.trans ?_ (ix4_self x))
  exact congrArg₂ ix4 (Fin.ext (by show 0 + 1 * (x 2).val = (x 2).val; omega)) (Fin.ext (by show 0 + 1 * (x 3).val = (x 3).val; omega))

theorem row_asmR (P : Fin 16 → Fin 8 → Vec F S1x512 .f32) (kb : Fin 16) (j : Fin 8) : row (asmR P) kb j = P kb j := by
  funext x
  have x0 : (x 0).val < 1 := (x 0).2
  have hp : ∀ (a a' : Fin 16) (b b' : Fin 8) (z z' : S1x512.Idx), a = a' → b = b' → z = z' → P a b z = P a' b' z' := by
    rintro _ _ _ _ _ _ rfl rfl rfl; rfl
  have := j.2
  refine hp _ _ _ _ _ _ (Fin.ext (by show (8 * kb.val + j.val + 1 * (x 0).val) / 8 = kb.val; omega))
    (Fin.ext (by show (8 * kb.val + j.val + 1 * (x 0).val) % 8 = j.val; omega)) (Eq.trans ?_ (ix2_self x))
  exact congrArg ix2 (Fin.ext (by show 0 + 1 * (x 1).val = (x 1).val; omega))

/-- An array all of whose head tiles are known is the array put together from them. -/
theorem eq_asm32 {e : EltTy} (X : Vec F S1x128x4096 e) (P : Fin 8 → Fin 4 → Vec F S1x128x128 e) (h : ∀ j g, yt X j g = P j g) :
    X = asm32 (fun h => P ⟨h.val / 4, by omega⟩ ⟨h.val % 4, by omega⟩) := by
  funext y
  have hy : (y 2).val < 4096 := (y 2).2
  have y0 : (y 0).val < 1 := (y 0).2
  show _ = P ⟨(y 2).val / 128 / 4, _⟩ ⟨(y 2).val / 128 % 4, _⟩ (ix3 (y 1) ⟨(y 2).val % 128, _⟩)
  rw [← h]
  show X y = X _
  refine congrArg X (funext fun a => Fin.ext ?_)
  match a with
  | ⟨0, _⟩ => show (y 0).val = 0 + 1 * 0; omega
  | ⟨1, _⟩ => show (y 1).val = 0 + 1 * (y 1).val; omega
  | ⟨2, _⟩ => show (y 2).val = 512 * ((y 2).val / 128 / 4) + 128 * ((y 2).val / 128 % 4) + 1 * ((y 2).val % 128); omega

section Congr
variable (q : Vec F S8x512x128 .fp8e4m3) (kv vt kv' vt' : Vec F S16x8x128x128 .fp8e4m3) (cq : Vec F S8x512 .f32)
  (kr vr kr' vr' : Vec F S128x512 .f32) (mask : IVec S128x512 1) (i : Fin 16) (j : Fin 8)
  (hk : ∀ kb ≤ i, ∀ j, kt kv kb j = kt kv' kb j) (hv : ∀ kb ≤ i, ∀ j, kt vt kb j = kt vt' kb j)
  (hr : ∀ kb ≤ i, ∀ j, row kr kb j = row kr' kb j) (hs : ∀ kb ≤ i, ∀ j, row vr kb j = row vr' kb j)

theorem ofNat_le {i : Fin 16} {k : ℕ} (h : k + 1 ≤ i.val) : (Fin.ofNat 16 k) ≤ i := by
  show k % 16 ≤ i.val
  omega

include hk hr in
theorem hMax_congr : ∀ k, k ≤ i.val → hMax q kv kr j k = hMax q kv' kr' j k
  | 0, _ => rfl
  | k + 1, h => by
    show k0_pay12 _ (hMax q kv kr j k) _ _ = k0_pay12 _ (hMax q kv' kr' j k) _ _
    rw [hMax_congr k (by omega), hk _ (ofNat_le h), hr _ (ofNat_le h)]
include hk hr in
theorem hT_congr : hT q kv cq kr mask i j = hT q kv' cq kr' mask i j := by
  unfold hT; rw [hMax_congr q kv kv' kr kr' i j hk hr _ le_rfl, hk _ le_rfl, hr _ le_rfl]
include hk hr in
theorem hE_congr : hE q kv cq kr mask i j = hE q kv' cq kr' mask i j := by
  unfold hE; rw [hMax_congr q kv kv' kr kr' i j hk hr _ le_rfl, hk _ le_rfl, hr _ le_rfl]
include hk hr in
theorem hEs_congr : hEs q kv cq kr mask i j = hEs q kv' cq kr' mask i j := by
  unfold hEs; rw [hMax_congr q kv kv' kr kr' i j hk hr _ le_rfl, hk _ le_rfl, hr _ le_rfl]
include hk hr in
theorem hPs_congr : hPs q kv cq kr mask i j = hPs q kv' cq kr' mask i j := by
  unfold hPs; rw [hE_congr q kv kv' cq kr kr' mask i j hk hr, hEs_congr q kv kv' cq kr kr' mask i j hk hr]
include hk hr in
theorem hSh_congr : hSh q kv cq kr mask i j = hSh q kv' cq kr' mask i j := by
  unfold hSh; rw [hT_congr q kv kv' cq kr kr' mask i j hk hr, hE_congr q kv kv' cq kr kr' mask i j hk hr, hEs_congr q kv kv' cq kr kr' mask i j hk hr]
include hk hv hr hs in
theorem hAcc_congr : ∀ k, k ≤ i.val → hAcc q kv vt cq kr vr mask i j k = hAcc q kv' vt' cq kr' vr' mask i j k
  | 0, _ => rfl
  | k + 1, h => by
    show k0_pay5 _ _ (hSh q kv cq kr mask i j) _ _ _ (hAcc q kv vt cq kr vr mask i j k) _ = k0_pay5 _ _ (hSh q kv' cq kr' mask i j) _ _ _ (hAcc q kv' vt' cq kr' vr' mask i j k) _
    rw [hAcc_congr k (by omega), hk _ (ofNat_le h), hr _ (ofNat_le h), hv _ (ofNat_le h), hs _ (ofNat_le h), hSh_congr q kv kv' cq kr kr' mask i j hk hr]
include hk hr in
theorem hL_congr : ∀ k, k ≤ i.val → hL q kv cq kr mask i j k = hL q kv' cq kr' mask i j k
  | 0, _ => rfl
  | k + 1, h => by
    show k0_pay22 (hL q kv cq kr mask i j k) (k0_pay6 _ _ (hSh q kv cq kr mask i j) _ _) = k0_pay22 (hL q kv' cq kr' mask i j k) (k0_pay6 _ _ (hSh q kv' cq kr' mask i j) _ _)
    rw [hL_congr k (by omega), hk _ (ofNat_le h), hr _ (ofNat_le h), hSh_congr q kv kv' cq kr kr' mask i j hk hr]
include hk hr in
theorem hP_congr : hP q kv cq kr mask i j = hP q kv' cq kr' mask i j := by
  unfold hP; rw [hSh_congr q kv kv' cq kr kr' mask i j hk hr, hk _ le_rfl, hr _ le_rfl]
include hk hv hr hs in
theorem hAccD_congr : hAccD q kv vt cq kr vr mask i j = hAccD q kv' vt' cq kr' vr' mask i j := by
  unfold hAccD
  rw [hSh_congr q kv kv' cq kr kr' mask i j hk hr, hk _ le_rfl, hr _ le_rfl, hv _ le_rfl, hs _ le_rfl, hAcc_congr q kv vt kv' vt' cq kr vr kr' vr' mask i j hk hv hr hs _ le_rfl]
include hk hv hr hs in
/-- The head group's tiles depend on the blocks up to the point's own alone. -/
theorem hY_congr (g : Fin 4) : hY q kv vt cq kr vr mask i j g = hY q kv' vt' cq kr' vr' mask i j g := by
  have a := hPs_congr q kv kv' cq kr kr' mask i j hk hr
  have b := hL_congr q kv kv' cq kr kr' mask i j hk hr _ le_rfl
  have d := hP_congr q kv kv' cq kr kr' mask i j hk hr
  have f := hAccD_congr q kv vt kv' vt' cq kr vr kr' vr' mask i j hk hv hr hs
  match g with
  | 0 => show k0_pay28 _ _ _ _ = k0_pay28 _ _ _ _; rw [a, b, d, f]
  | 1 => show k0_pay29 _ _ _ _ = k0_pay29 _ _ _ _; rw [a, b, d, f]
  | 2 => show k0_pay2 (hOut _ _ _ _ _ _ _ _ _) = k0_pay2 (hOut _ _ _ _ _ _ _ _ _); unfold hOut; rw [a, b, d, f]
  | 3 => show k0_pay3 (hOut _ _ _ _ _ _ _ _ _) = k0_pay3 (hOut _ _ _ _ _ _ _ _ _); unfold hOut; rw [a, b, d, f]
end Congr

/-- The offsets of the eight key tiles a point stores. -/
def off13 (i : grid0.Coords) : Fin 8 → Fin 4 → ℕ := ![k0_off1 i, k0_off3 i, k0_off4 i, k0_off5 i, k0_off6 i, k0_off7 i, k0_off8 i, k0_off9 i]
def off16 (i : grid0.Coords) : Fin 8 → Fin 2 → ℕ := fun j => k0_off2 i (BitVec.ofNat 32 j.val)
theorem off13_eq (i : grid0.Coords) : ∀ j, off13 i j = ![(i 1).val, j.val, 0, 0] := fun j =>
  match j with
  | 0 => k0_off1_eq i | 1 => k0_off3_eq i | 2 => k0_off4_eq i | 3 => k0_off5_eq i
  | 4 => k0_off6_eq i | 5 => k0_off7_eq i | 6 => k0_off8_eq i | 7 => k0_off9_eq i
theorem off16_eq (i : grid0.Coords) : ∀ j, off16 i j = ![8 * (i 1).val + j.val, 0] := k0_off2_eq i

/-- The point's position along the blocks. -/
def ib (i : grid0.Coords) : Fin 16 := ⟨(i 1).val, (i 1).2⟩

/-- The stores of a point's eight tiles and of their scales' rows. -/
def newK (i : grid0.Coords) (P : Fin 8 → Vec F S1x1x128x128 .fp8e4m3) : List (View.Piece (Elt F) S16x8x128x128 .fp8e4m3) :=
  View.tilePieces (s := S16x8x128x128) S1x1x128x128.size (off13 i) (inbK (ib i).val (ib i).2 (off13 i) (off13_eq i)) P 8 le_rfl
def newR (i : grid0.Coords) (P : Fin 8 → Vec F S1x512 .f32) : List (View.Piece (Elt F) S128x512 .f32) :=
  View.tilePieces (s := S128x512) S1x512.size (off16 i) (inbR (ib i).val (ib i).2 (off16 i) (off16_eq i)) P 8 le_rfl

/-- The causal mask of the diagonal block. -/
def maskD : IVec S128x512 1 := k0_pay1 (iota .tc S128x512 32 [0] iota_S128x512_d0_w32) k0_pay547

/-- What a point leaves in the scratch of key (or value) tiles, and in that of their scales' rows. -/
def KtPost (i : grid0.Coords) (P : Fin 8 → Vec F S1x1x128x128 .fp8e4m3) (d d' : Vec F S16x8x128x128 .fp8e4m3) : Prop :=
  ∀ kb j, kt d' kb j = if kb = ib i then P j else kt d kb j
def RowPost (i : grid0.Coords) (P : Fin 8 → Vec F S1x512 .f32) (d d' : Vec F S128x512 .f32) : Prop :=
  ∀ kb j, row d' kb j = if kb = ib i then P j else row d kb j

/-- The output block from the scratch contents. -/
def yOf (x : Vec F S1x128x4096 .bf16) (kv vt : Vec F S16x8x128x128 .fp8e4m3) (kr vr : Vec F S128x512 .f32) (i : Fin 16) : Vec F S1x128x4096 .bf16 :=
  asm32 (fun h => hY (asmQ fun h => code3 (xt x h)) kv vt (asmC fun h => cqr (xt x h)) kr vr maskD i ⟨h.val / 4, by omega⟩ ⟨h.val % 4, by omega⟩)

end Cert.KernelIdeal.Strong

end
-- ==== Proof.Strong.Body.lean ====
module

public import proofs.«01_k».proof.Proof.Gen.KernelIdeal.Frame
public import proofs.«01_k».proof.Proof.Gen.KernelIdeal.Loops
public import Idealize.ShloMosaic.Lib.Claim
public import proofs.«01_k».proof.Proof.Strong.Asm

@[expose] public section

set_option maxRecDepth 16384

noncomputable section

namespace Cert.KernelIdeal.Strong

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem read_one {κ : Kind} {sp : Space} {s : Shape} {e : EltTy} (v : View sig κ sp s e) (f : v.ty.Contents (Elt F)) {off : Fin s.rank → ℕ} (h : off = fun _ => 0)
    (inb : ∀ a, off a + s.size a ≤ s.size a) (w : Vec F s e) :
    v.read (Elt F) (v.writes (Elt F) f [(⟨Rect.unit off s.size inb, w⟩ : View.Piece (Elt F) s e)]) = w :=
  funext fun y => View.read_writes_cons_unit_of_mem v f inb w [] y y h (fun a => (Nat.zero_add _).symm)

theorem z4 : (![0, 0, 0, 0] : Fin 4 → ℕ) = fun _ => 0 := by
  funext a; fin_cases a <;> rfl

set_option maxHeartbeats 40000000 in
theorem sound_kernel (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x4096 .bf16) (harg5 : arg5.IsWhole) (arg6 : Memref sig .tc .vmem S1x128x4096 .fp8e4m3) (harg6 : arg6.IsWhole) (arg7 : Memref sig .tc .vmem S1x1x1x32 .f32) (harg7 : arg7.IsWhole) (arg8 : Memref sig .tc .vmem S1x128x1024 .fp8e4m3) (harg8 : arg8.IsWhole) (arg9 : Memref sig .tc .vmem S1x1x1x8 .f32) (harg9 : arg9.IsWhole) (arg10 : Memref sig .tc .vmem S1x128x1024 .fp8e4m3) (harg10 : arg10.IsWhole) (arg11 : Memref sig .tc .vmem S1x1x1x8 .f32) (harg11 : arg11.IsWhole) (arg12 : Memref sig .tc .vmem S8x512x128 .fp8e4m3) (harg12 : arg12.IsWhole) (arg13 : Memref sig .tc .vmem S16x8x128x128 .fp8e4m3) (harg13 : arg13.IsWhole) (arg14 : Memref sig .tc .vmem S16x8x128x128 .fp8e4m3) (harg14 : arg14.IsWhole) (arg15 : Memref sig .tc .vmem S8x512 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole)
    (x2 : Vec F S1x128x4096 .bf16) (x3 : Vec F S1x128x1024 .bf16) (x4 : Vec F S1x128x1024 .bf16) (d13 : Vec F S16x8x128x128 .fp8e4m3) (d14 : Vec F S16x8x128x128 .fp8e4m3) (d16 : Vec F S128x512 .f32) (d17 : Vec F S128x512 .f32) (K : PUnit → sProp 𝕄) :
    iprop((owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare d13 ∗ owns (c : Thread nD τ) arg14 fullShare d14 ∗ (∃ d, owns (c : Thread nD τ) arg15 fullShare d) ∗ owns (c : Thread nD τ) arg16 fullShare d16 ∗ owns (c : Thread nD τ) arg17 fullShare d17 ∗ (∃ d, owns (c : Thread nD τ) arg18 fullShare d))
        ∗ ((∃ e13 e14 e16 e17, ⌜KtPost i (fun j => code4 (ut x3 j)) d13 e13 ∧ KtPost i (fun j => codeT4 (ut x4 j)) d14 e14 ∧ RowPost i (fun j => row512 (ut x3 j)) d16 e16 ∧ RowPost i (fun j => row512 (ut x4 j)) d17 e17⌝ ∗ owns (c : Thread nD τ) arg2 fullShare x2 ∗ owns (c : Thread nD τ) arg3 fullShare x3 ∗ owns (c : Thread nD τ) arg4 fullShare x4 ∗ owns (c : Thread nD τ) arg5 fullShare (yOf x2 e13 e14 e16 e17 (ib i)) ∗ owns (c : Thread nD τ) arg6 fullShare (asm32 fun h => code3 (xt x2 h)) ∗ owns (c : Thread nD τ) arg7 fullShare (scales32 x2) ∗ owns (c : Thread nD τ) arg8 fullShare (asm8 fun j => code3 (ut x3 j)) ∗ owns (c : Thread nD τ) arg9 fullShare (scales8 x3) ∗ owns (c : Thread nD τ) arg10 fullShare (asm8 fun j => code3 (ut x4 j)) ∗ owns (c : Thread nD τ) arg11 fullShare (scales8 x4) ∗ owns (c : Thread nD τ) arg12 fullShare (asmQ fun h => code3 (xt x2 h)) ∗ owns (c : Thread nD τ) arg13 fullShare e13 ∗ owns (c : Thread nD τ) arg14 fullShare e14 ∗ owns (c : Thread nD τ) arg15 fullShare (asmC fun h => cqr (xt x2 h)) ∗ owns (c : Thread nD τ) arg16 fullShare e16 ∗ owns (c : Thread nD τ) arg17 fullShare e17 ∗ (∃ d, owns (c : Thread nD τ) arg18 fullShare d)) -∗ K ⟨⟩))
      ⊢ wp frame (wpE (defs₀ (F := F)) Variants.none c none) Set.univ (cc0_fp8_softcap_gqa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_fp8_softcap_gqa_eq_skeleton]; unfold cc0_fp8_softcap_gqa_skel
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
  unfold owns
  iintro ⟨⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, ⟨%f16, %hf16, H16⟩, ⟨%f17, %hf17, H17⟩, ⟨%d18, %f18, -, H18⟩⟩, Hk⟩
  subst hf2 hf3 hf4 hf13 hf14 hf16 hf17
  sl_exec
  sl_step
  iapply Hk
  have e9 : sound_kernel.sl.H9_1 c arg3 f3 = [⟨Rect.unit ![0, 0, 0, 0] S1x1x1x8.size inb_S1x1x1x8_S1x1x1x8_0_0_0_0, scales8 (arg3.view.read (Elt F) f3)⟩] := rfl
  have e11 : sound_kernel.sl.H11_1 c arg4 f4 = [⟨Rect.unit ![0, 0, 0, 0] S1x1x1x8.size inb_S1x1x1x8_S1x1x1x8_0_0_0_0, scales8 (arg4.view.read (Elt F) f4)⟩] := rfl
  have e7 : sound_kernel.sl.H7_1 c arg2 f2 = [⟨Rect.unit ![0, 0, 0, 0] S1x1x1x32.size inb_S1x1x1x32_S1x1x1x32_0_0_0_0, scales32 (arg2.view.read (Elt F) f2)⟩] := rfl
  have e8 : sound_kernel.sl.H8_8 c arg3 f3 = View.tilePieces (s := S1x128x1024) S1x128x128.size (off3 8) inb3' (fun h => code3 (ut (arg3.view.read (Elt F) f3) h)) 8 le_rfl := rfl
  have e10 : sound_kernel.sl.H10_8 c arg4 f4 = View.tilePieces (s := S1x128x1024) S1x128x128.size (off3 8) inb3' (fun h => code3 (ut (arg4.view.read (Elt F) f4) h)) 8 le_rfl := rfl
  have e6 : sound_kernel.sl.H6_32 c arg2 f2 = View.tilePieces (s := S1x128x4096) S1x128x128.size (off3 32) inb3 (fun h => code3 (xt (arg2.view.read (Elt F) f2) h)) 32 le_rfl := rfl
  have e12 : sound_kernel.sl.H12_32 c arg2 f2 = View.tilePieces (s := S8x512x128) S1x128x128.size offQ inbQ (fun h => code3 (xt (arg2.view.read (Elt F) f2) h)) 32 le_rfl := rfl
  have e15 : sound_kernel.sl.H15_32 c arg2 f2 = View.tilePieces (s := S8x512) S1x128.size offC inbC (fun h => cqr (xt (arg2.view.read (Elt F) f2) h)) 32 le_rfl := rfl
  rw [e6, e7, e8, e9, e10, e11, e12, e15]
  have h5 := hL7
  rw [e12, read_asmQ, e15, read_asmC] at h5
  iexists (arg13.view.read (Elt F) (arg13.view.writes (Elt F) f13 (newK i fun j => code4 (ut (arg3.view.read (Elt F) f3) j))))
  iexists (arg14.view.read (Elt F) (arg14.view.writes (Elt F) f14 (newK i fun j => codeT4 (ut (arg4.view.read (Elt F) f4) j))))
  iexists (arg16.view.read (Elt F) (arg16.view.writes (Elt F) f16 (newR i fun j => row512 (ut (arg3.view.read (Elt F) f3) j))))
  iexists (arg17.view.read (Elt F) (arg17.view.writes (Elt F) f17 (newR i fun j => row512 (ut (arg4.view.read (Elt F) f4) j))))
  isplitr
  · ipureintro
    exact ⟨fun kb j => kt_writes _ _ (ib i) (off13 i) (off13_eq i) _ kb j, fun kb j => kt_writes _ _ (ib i) (off13 i) (off13_eq i) _ kb j,
      fun kb j => row_writes _ _ (ib i) (off16 i) (off16_eq i) _ kb j, fun kb j => row_writes _ _ (ib i) (off16 i) (off16_eq i) _ kb j⟩
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    have hi : (Fin.ofNat 16 (i 1).val : Fin 16) = ib i := Fin.ext (Nat.mod_eq_of_lt (i 1).2)
    rw [hi] at h5
    exact eq_asm32 _ _ (fun j g => h5 j g (lt_of_lt_of_eq j.2 t1_trips.symm))
  isplitl [H6]
  · iexists _; isplitr
    swap; · iexact H6
    ipureintro; exact read_asm32 _ _ _
  isplitl [H7]
  · iexists _; isplitr
    swap; · iexact H7
    ipureintro; exact read_one _ _ z4 _ _
  isplitl [H8]
  · iexists _; isplitr
    swap; · iexact H8
    ipureintro; exact read_asm8 _ _ _
  isplitl [H9]
  · iexists _; isplitr
    swap; · iexact H9
    ipureintro; exact read_one _ _ z4 _ _
  isplitl [H10]
  · iexists _; isplitr
    swap; · iexact H10
    ipureintro; exact read_asm8 _ _ _
  isplitl [H11]
  · iexists _; isplitr
    swap; · iexact H11
    ipureintro; exact read_one _ _ z4 _ _
  isplitl [H12]
  · iexists _; isplitr
    swap; · iexact H12
    ipureintro; exact read_asmQ _ _ _
  isplitl [H13]
  · iexists _; isplitr
    swap; · iexact H13
    ipureintro; exact rfl
  isplitl [H14]
  · iexists _; isplitr
    swap; · iexact H14
    ipureintro; exact rfl
  isplitl [H15]
  · iexists _; isplitr
    swap; · iexact H15
    ipureintro; exact read_asmC _ _ _
  isplitl [H16]
  · iexists _; isplitr
    swap; · iexact H16
    ipureintro; exact rfl
  isplitl [H17]
  · iexists _; isplitr
    swap; · iexact H17
    ipureintro; exact rfl
  iexists _; iexists _; isplitr
  swap; · iexact H18
  ipureintro; rfl

end Cert.KernelIdeal.Strong

end
-- ==== Proof.Strong.Run.lean ====
module

public import proofs.«01_k».proof.Proof.Gen.KernelIdeal.Frame
public import proofs.«01_k».proof.Proof.Gen.KernelIdeal.Loops
public import Idealize.ShloMosaic.Lib.Claim
public import proofs.«01_k».proof.Proof.Strong.Body
public import Idealize.ShloMosaic.Lib.Pipeline.Value

@[expose] public section

set_option maxRecDepth 16384

noncomputable section

namespace Cert.KernelIdeal.Strong

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point's place in the grid: the batch and the block. -/
theorem co : ∀ t : Fin cfg0.N, ((grid0.coords t) (0 : Fin 2)).val = t.val / 16 ∧ ((grid0.coords t) (1 : Fin 2)).val = t.val % 16 :=
  (by decide +kernel : ∀ t : Fin grid0.N, ((grid0.coords t) (0 : Fin 2)).val = t.val / 16 ∧ ((grid0.coords t) (1 : Fin 2)).val = t.val % 16)

/-- The point of block `kb` in the batch of point `t`. -/
def bt (t : Fin cfg0.N) (kb : Fin 16) : Fin cfg0.N := ⟨16 * (t.val / 16) + kb.val, by
  have h : t.val < 128 := t.2
  show _ < 128
  have := kb.2
  omega⟩

theorem ib_co (t : Fin cfg0.N) : (ib (grid0.coords t)).val = t.val % 16 := (co t).2

/-- The keys' tiles, the values' and their scales' rows of a point's batch. -/
def KS (c : Dev nD) (t : Fin cfg0.N) : Vec F S16x8x128x128 .fp8e4m3 := asmK fun kb j => code4 (ut (iblk m c 1 (bt t kb)) j)
def VS (c : Dev nD) (t : Fin cfg0.N) : Vec F S16x8x128x128 .fp8e4m3 := asmK fun kb j => codeT4 (ut (iblk m c 2 (bt t kb)) j)
def KR (c : Dev nD) (t : Fin cfg0.N) : Vec F S128x512 .f32 := asmR fun kb j => row512 (ut (iblk m c 1 (bt t kb)) j)
def VR (c : Dev nD) (t : Fin cfg0.N) : Vec F S128x512 .f32 := asmR fun kb j => row512 (ut (iblk m c 2 (bt t kb)) j)

/-- What a point leaves in the attention output's block. -/
def yBlk (c : Dev nD) (t : Fin cfg0.N) : Vec F S1x128x4096 .bf16 :=
  yOf (iblk m c 0 t) (KS m c t) (VS m c t) (KR m c t) (VR m c t) (ib (grid0.coords t))

/-- Before point `n` the scratch holds the blocks of the batch that are done. -/
def Inv (c : Dev nD) (n : ℕ) (d13 d14 : Vec F S16x8x128x128 .fp8e4m3) (d16 d17 : Vec F S128x512 .f32) : Prop :=
  ∀ t' : Fin cfg0.N, t'.val / 16 = n / 16 → t'.val < n → ∀ j,
    kt d13 (ib (grid0.coords t')) j = code4 (ut (iblk m c 1 t') j) ∧ kt d14 (ib (grid0.coords t')) j = codeT4 (ut (iblk m c 2 t') j)
    ∧ row d16 (ib (grid0.coords t')) j = row512 (ut (iblk m c 1 t') j) ∧ row d17 (ib (grid0.coords t')) j = row512 (ut (iblk m c 2 t') j)

theorem inv_step (c : Dev nD) (t : Fin cfg0.N) (d13 d14 e13 e14 : Vec F S16x8x128x128 .fp8e4m3) (d16 d17 e16 e17 : Vec F S128x512 .f32)
    (h : Inv m c t.val d13 d14 d16 d17)
    (h13 : KtPost (grid0.coords t) (fun j => code4 (ut (iblk m c 1 t) j)) d13 e13) (h14 : KtPost (grid0.coords t) (fun j => codeT4 (ut (iblk m c 2 t) j)) d14 e14)
    (h16 : RowPost (grid0.coords t) (fun j => row512 (ut (iblk m c 1 t) j)) d16 e16) (h17 : RowPost (grid0.coords t) (fun j => row512 (ut (iblk m c 2 t) j)) d17 e17)
    (t' : Fin cfg0.N) (hb : t'.val / 16 = t.val / 16) (hlt : t'.val ≤ t.val) (j : Fin 8) :
    kt e13 (ib (grid0.coords t')) j = code4 (ut (iblk m c 1 t') j) ∧ kt e14 (ib (grid0.coords t')) j = codeT4 (ut (iblk m c 2 t') j)
    ∧ row e16 (ib (grid0.coords t')) j = row512 (ut (iblk m c 1 t') j) ∧ row e17 (ib (grid0.coords t')) j = row512 (ut (iblk m c 2 t') j) := by
  rw [h13, h14, h16, h17]
  by_cases he : t' = t
  · subst he; simp only [if_true, and_self]
  · have hn : t'.val ≠ t.val := fun hh => he (Fin.ext hh)
    have hne : ¬ ib (grid0.coords t') = ib (grid0.coords t) := fun hh => by
      have := congrArg Fin.val hh
      rw [ib_co, ib_co] at this
      omega
    simp only [hne, if_false]
    exact h t' hb (by omega) j

theorem inv_succ (c : Dev nD) (t : Fin cfg0.N) (e13 e14 : Vec F S16x8x128x128 .fp8e4m3) (e16 e17 : Vec F S128x512 .f32)
    (h : ∀ t' : Fin cfg0.N, t'.val / 16 = t.val / 16 → t'.val ≤ t.val → ∀ j,
      kt e13 (ib (grid0.coords t')) j = code4 (ut (iblk m c 1 t') j) ∧ kt e14 (ib (grid0.coords t')) j = codeT4 (ut (iblk m c 2 t') j)
      ∧ row e16 (ib (grid0.coords t')) j = row512 (ut (iblk m c 1 t') j) ∧ row e17 (ib (grid0.coords t')) j = row512 (ut (iblk m c 2 t') j)) :
    Inv m c (t.val + 1) e13 e14 e16 e17 := fun t' hb hlt j => h t' (by omega) (by omega) j

theorem y_eq (c : Dev nD) (t : Fin cfg0.N) (e13 e14 : Vec F S16x8x128x128 .fp8e4m3) (e16 e17 : Vec F S128x512 .f32)
    (h : ∀ t' : Fin cfg0.N, t'.val / 16 = t.val / 16 → t'.val ≤ t.val → ∀ j,
      kt e13 (ib (grid0.coords t')) j = code4 (ut (iblk m c 1 t') j) ∧ kt e14 (ib (grid0.coords t')) j = codeT4 (ut (iblk m c 2 t') j)
      ∧ row e16 (ib (grid0.coords t')) j = row512 (ut (iblk m c 1 t') j) ∧ row e17 (ib (grid0.coords t')) j = row512 (ut (iblk m c 2 t') j)) :
    yOf (iblk m c 0 t) e13 e14 e16 e17 (ib (grid0.coords t)) = yBlk m c t := by
  have hkb : ∀ kb, kb ≤ ib (grid0.coords t) → (bt t kb).val / 16 = t.val / 16 ∧ (bt t kb).val ≤ t.val ∧ ib (grid0.coords (bt t kb)) = kb := fun kb hk => by
    have h1 := kb.2
    have h2 : kb.val ≤ t.val % 16 := le_of_le_of_eq hk (ib_co t)
    have h3 : (bt t kb).val = 16 * (t.val / 16) + kb.val := rfl
    refine ⟨by omega, by omega, Fin.ext ?_⟩
    rw [ib_co, h3]; omega
  have hh : ∀ kb, kb ≤ ib (grid0.coords t) → ∀ j, kt e13 kb j = kt (KS m c t) kb j ∧ kt e14 kb j = kt (VS m c t) kb j ∧ row e16 kb j = row (KR m c t) kb j ∧ row e17 kb j = row (VR m c t) kb j := fun kb hk j => by
    obtain ⟨a, b, d⟩ := hkb kb hk
    have := h (bt t kb) a b j
    rw [d] at this
    unfold KS VS KR VR
    rw [kt_asmK, kt_asmK, row_asmR, row_asmR]
    exact this
  unfold yBlk yOf
  refine congrArg asm32 (funext fun q => ?_)
  exact hY_congr _ _ _ _ _ _ _ _ _ _ _ _ _ (fun kb hk j => (hh kb hk j).1) (fun kb hk j => (hh kb hk j).2.1) (fun kb hk j => (hh kb hk j).2.2.1) (fun kb hk j => (hh kb hk j).2.2.2) _

/-- What the points hand on: the scratch with the batch's blocks so far. -/
def PhiT (c : Dev nD) (n : ℕ) : sProp 𝕄 :=
  iprop((∃ (s0 : Buf (Elt F) ((c : Thread nD τ).loc cc0_scratch0)) (s1 : Buf (Elt F) ((c : Thread nD τ).loc cc0_scratch1)) (s2 : Buf (Elt F) ((c : Thread nD τ).loc cc0_scratch2)) (s3 : Buf (Elt F) ((c : Thread nD τ).loc cc0_scratch3)) (s4 : Buf (Elt F) ((c : Thread nD τ).loc cc0_scratch4)) (s5 : Buf (Elt F) ((c : Thread nD τ).loc cc0_scratch5)) (s6 : Buf (Elt F) ((c : Thread nD τ).loc cc0_scratch6)),
    ⌜Inv m c n s1 s2 s4 s5⌝ ∗ (((c : Thread nD τ).loc cc0_scratch0) ↦{fullShare} s0) ∗ (((c : Thread nD τ).loc cc0_scratch1) ↦{fullShare} s1) ∗ (((c : Thread nD τ).loc cc0_scratch2) ↦{fullShare} s2) ∗ (((c : Thread nD τ).loc cc0_scratch3) ↦{fullShare} s3) ∗ (((c : Thread nD τ).loc cc0_scratch4) ↦{fullShare} s4) ∗ (((c : Thread nD τ).loc cc0_scratch5) ↦{fullShare} s5) ∗ (((c : Thread nD τ).loc cc0_scratch6) ↦{fullShare} s6)) ∗ ∃ r, prngReg c r)

/-- The proof data: what each point leaves in each window's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlk m c t
    | ⟨4, _⟩ => asm32 fun h => code3 (xt (iblk m c 0 t) h)
    | ⟨5, _⟩ => scales32 (iblk m c 0 t)
    | ⟨6, _⟩ => asm8 fun j => code3 (ut (iblk m c 1 t) j)
    | ⟨7, _⟩ => scales8 (iblk m c 1 t)
    | ⟨8, _⟩ => asm8 fun j => code3 (ut (iblk m c 2 t) j)
    | ⟨9, _⟩ => scales8 (iblk m c 2 t)
  Φ t := PhiT m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = yBlk m c t := by dsimp only [dats]
theorem after0_4 (c : Dev nD) (t : Fin cfg0.N) : (dats m 0 c).after 4 t = asm32 fun h => code3 (xt (iblk m c 0 t) h) := by dsimp only [dats]
theorem after0_5 (c : Dev nD) (t : Fin cfg0.N) : (dats m 0 c).after 5 t = scales32 (iblk m c 0 t) := by dsimp only [dats]
theorem after0_6 (c : Dev nD) (t : Fin cfg0.N) : (dats m 0 c).after 6 t = asm8 fun j => code3 (ut (iblk m c 1 t) j) := by dsimp only [dats]
theorem after0_7 (c : Dev nD) (t : Fin cfg0.N) : (dats m 0 c).after 7 t = scales8 (iblk m c 1 t) := by dsimp only [dats]
theorem after0_8 (c : Dev nD) (t : Fin cfg0.N) : (dats m 0 c).after 8 t = asm8 fun j => code3 (ut (iblk m c 2 t) j) := by dsimp only [dats]
theorem after0_9 (c : Dev nD) (t : Fin cfg0.N) : (dats m 0 c).after 9 t = scales8 (iblk m c 2 t) := by dsimp only [dats]

/-- What the body is called with at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
/-- What it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = PhiT m c t.val from rfl, show (dats m 0 c).Φ t.succ = PhiT m c (t.val + 1) from rfl,
    show (dats m 0 c).owesAt () t.succ = (dats m 0 c).owesAt () t.castSucc from rfl, after0_0, after0_1, after0_2, after0_3, after0_4, after0_5, after0_6, after0_7, after0_8, after0_9]
  unfold PhiT
  iintro ⟨⟨⟨%s0, %s1, %s2, %s3, %s4, %s5, %s6, %hinv, HS0, HS1, HS2, HS3, HS4, HS5, HS6⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c _ _ _ _ _ _ _ _ _ _ _ _ _ _ _ _ _ _ _ _ _ _ _ _ _ _ _ _ _ _ _ _ _ _ _ (iblk m c 0 t) (iblk m c 1 t) (iblk m c 2 t) s1 s2 s4 s5 _)
  isplitl [H0 H1 H2 H3 H4 H5 H6 H7 H8 H9 HS0 HS1 HS2 HS3 HS4 HS5 HS6]
  · isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists s0; rw [owns_whole_eq]; iexists s0; isplitr; · ipureintro; rfl
      iexact HS0
    isplitl [HS1]
    · rw [owns_whole_eq]; iexists s1; isplitr; · ipureintro; rfl
      iexact HS1
    isplitl [HS2]
    · rw [owns_whole_eq]; iexists s2; isplitr; · ipureintro; rfl
      iexact HS2
    isplitl [HS3]
    · iexists s3; rw [owns_whole_eq]; iexists s3; isplitr; · ipureintro; rfl
      iexact HS3
    isplitl [HS4]
    · rw [owns_whole_eq]; iexists s4; isplitr; · ipureintro; rfl
      iexact HS4
    isplitl [HS5]
    · rw [owns_whole_eq]; iexists s5; isplitr; · ipureintro; rfl
      iexact HS5
    iexists s6; rw [owns_whole_eq]; iexists s6; isplitr; · ipureintro; rfl
    iexact HS6
  iintro ⟨%e13, %e14, %e16, %e17, ⟨%h13, %h14, %h16, %h17⟩, H0, H1, H2, H3, H4, H5, H6, H7, H8, H9, HS0, HS1, HS2, HS3, HS4, HS5, ⟨%e6, HS6⟩⟩
  have hstep := inv_step m c t s1 s2 e13 e14 s4 s5 e16 e17 hinv h13 h14 h16 h17
  rw [y_eq m c t e13 e14 e16 e17 hstep]
  simp only [owns_whole_eq]
  isplitl [HP HS0 HS1 HS2 HS3 HS4 HS5 HS6]
  · isplitr [HP]
    swap; · iexact HP
    icases HS0 with ⟨%g0, %hg0, HS0⟩
    icases HS1 with ⟨%g1, %hg1, HS1⟩
    icases HS2 with ⟨%g2, %hg2, HS2⟩
    icases HS3 with ⟨%g3, %hg3, HS3⟩
    icases HS4 with ⟨%g4, %hg4, HS4⟩
    icases HS5 with ⟨%g5, %hg5, HS5⟩
    icases HS6 with ⟨%g6, %hg6, HS6⟩
    iexists g0; iexists g1; iexists g2; iexists g3; iexists g4; iexists g5; iexists g6
    isplitr
    · ipureintro; rw [hg1, hg2, hg4, hg5]; exact inv_succ m c t e13 e14 e16 e17 hstep
    isplitl [HS0]; · iexact HS0
    isplitl [HS1]; · iexact HS1
    isplitl [HS2]; · iexact HS2
    isplitl [HS3]; · iexact HS3
    isplitl [HS4]; · iexact HS4
    isplitl [HS5]; · iexact HS5
    iexact HS6
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : (Pipeline.ΦA spec0 c : sProp 𝕄) ⊢ PhiT m c 0 := by
  unfold Pipeline.ΦA PhiT
  rw [scopedRest0_eq]
  iintro ⟨⟨⟨%s0, HS0⟩, ⟨%s1, HS1⟩, ⟨%s2, HS2⟩, ⟨%s3, HS3⟩, ⟨%s4, HS4⟩, ⟨%s5, HS5⟩, ⟨%s6, HS6⟩⟩, HP⟩
  isplitr [HP]
  swap; · iexact HP
  iexists s0; iexists s1; iexists s2; iexists s3; iexists s4; iexists s5; iexists s6
  isplitr
  · ipureintro; exact fun t' _ h => absurd h (Nat.not_lt_zero _)
  isplitl [HS0]; · iexact HS0
  isplitl [HS1]; · iexact HS1
  isplitl [HS2]; · iexact HS2
  isplitl [HS3]; · iexact HS3
  isplitl [HS4]; · iexact HS4
  isplitl [HS5]; · iexact HS5
  iexact HS6

theorem phi_out (c : Dev nD) (n : ℕ) : PhiT m c n ⊢ (Pipeline.ΦA spec0 c : sProp 𝕄) := by
  unfold Pipeline.ΦA PhiT
  rw [scopedRest0_eq]
  iintro ⟨⟨%s0, %s1, %s2, %s3, %s4, %s5, %s6, -, HS0, HS1, HS2, HS3, HS4, HS5, HS6⟩, HP⟩
  isplitr [HP]
  swap; · iexact HP
  isplitl [HS0]; · iexists s0; iexact HS0
  isplitl [HS1]; · iexists s1; iexact HS1
  isplitl [HS2]; · iexists s2; iexact HS2
  isplitl [HS3]; · iexists s3; iexact HS3
  isplitl [HS4]; · iexists s4; iexact HS4
  isplitl [HS5]; · iexists s5; iexact HS5
  iexists s6; iexact HS6

set_option backward.isDefEq.respectTransparency.types false in
set_option maxHeartbeats 800000 in
/-- The run: terminates, the arrays as the proof data says. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => phi_in m c) (hout := fun c => phi_out m c _)

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, win0_0.index t (0 : Fin 3) = t.val / 16 ∧ win0_0.index t (1 : Fin 3) = t.val % 16 ∧ win0_0.index t (2 : Fin 3) = 0)
theorem emb0 (t : Fin cfg0.N) (j : S1x128x4096.Idx) : ∀ a, (((cfg0.win 0).blk t).view.emb j a).val = (![t.val / 16, 128 * (t.val % 16) + (j 1).val, (j 2).val] : Fin 3 → ℕ) a := by
  obtain ⟨e0, e1, e2⟩ := idx0 t
  have j0 : (j 0).val < 1 := (j 0).2
  intro a
  match a with
  | ⟨0, _⟩ => show win0_0.index t (0 : Fin 3) * 1 + 1 * (j 0).val = t.val / 16; omega
  | ⟨1, _⟩ => show win0_0.index t (1 : Fin 3) * 128 + 1 * (j 1).val = 128 * (t.val % 16) + (j 1).val; omega
  | ⟨2, _⟩ => show win0_0.index t (2 : Fin 3) * 4096 + 1 * (j 2).val = (j 2).val; omega
theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, win0_1.index t (0 : Fin 3) = t.val / 16 ∧ win0_1.index t (1 : Fin 3) = t.val % 16 ∧ win0_1.index t (2 : Fin 3) = 0)
theorem emb1 (t : Fin cfg0.N) (j : S1x128x1024.Idx) : ∀ a, (((cfg0.win 1).blk t).view.emb j a).val = (![t.val / 16, 128 * (t.val % 16) + (j 1).val, (j 2).val] : Fin 3 → ℕ) a := by
  obtain ⟨e0, e1, e2⟩ := idx1 t
  have j0 : (j 0).val < 1 := (j 0).2
  intro a
  match a with
  | ⟨0, _⟩ => show win0_1.index t (0 : Fin 3) * 1 + 1 * (j 0).val = t.val / 16; omega
  | ⟨1, _⟩ => show win0_1.index t (1 : Fin 3) * 128 + 1 * (j 1).val = 128 * (t.val % 16) + (j 1).val; omega
  | ⟨2, _⟩ => show win0_1.index t (2 : Fin 3) * 1024 + 1 * (j 2).val = (j 2).val; omega
theorem idx2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, win0_2.index t (0 : Fin 3) = t.val / 16 ∧ win0_2.index t (1 : Fin 3) = t.val % 16 ∧ win0_2.index t (2 : Fin 3) = 0)
theorem emb2 (t : Fin cfg0.N) (j : S1x128x1024.Idx) : ∀ a, (((cfg0.win 2).blk t).view.emb j a).val = (![t.val / 16, 128 * (t.val % 16) + (j 1).val, (j 2).val] : Fin 3 → ℕ) a := by
  obtain ⟨e0, e1, e2⟩ := idx2 t
  have j0 : (j 0).val < 1 := (j 0).2
  intro a
  match a with
  | ⟨0, _⟩ => show win0_2.index t (0 : Fin 3) * 1 + 1 * (j 0).val = t.val / 16; omega
  | ⟨1, _⟩ => show win0_2.index t (1 : Fin 3) * 128 + 1 * (j 1).val = 128 * (t.val % 16) + (j 1).val; omega
  | ⟨2, _⟩ => show win0_2.index t (2 : Fin 3) * 1024 + 1 * (j 2).val = (j 2).val; omega
theorem idx3 : ∀ t : Fin cfg0.N, win0_3.index t (0 : Fin 3) = t.val / 16 ∧ win0_3.index t (1 : Fin 3) = t.val % 16 ∧ win0_3.index t (2 : Fin 3) = 0 :=
  (by decide +kernel : ∀ t : Fin grid0.N, win0_3.index t (0 : Fin 3) = t.val / 16 ∧ win0_3.index t (1 : Fin 3) = t.val % 16 ∧ win0_3.index t (2 : Fin 3) = 0)
theorem emb3 (t : Fin cfg0.N) (j : S1x128x4096.Idx) : ∀ a, (((cfg0.win 3).blk t).view.emb j a).val = (![t.val / 16, 128 * (t.val % 16) + (j 1).val, (j 2).val] : Fin 3 → ℕ) a := by
  obtain ⟨e0, e1, e2⟩ := idx3 t
  have j0 : (j 0).val < 1 := (j 0).2
  intro a
  match a with
  | ⟨0, _⟩ => show win0_3.index t (0 : Fin 3) * 1 + 1 * (j 0).val = t.val / 16; omega
  | ⟨1, _⟩ => show win0_3.index t (1 : Fin 3) * 128 + 1 * (j 1).val = 128 * (t.val % 16) + (j 1).val; omega
  | ⟨2, _⟩ => show win0_3.index t (2 : Fin 3) * 4096 + 1 * (j 2).val = (j 2).val; omega
theorem covered3 (i : S8x2048x4096.Idx) : ∃ t : Fin cfg0.N, (cfg0.win 3).flush t = true ∧ i ∈ ((cfg0.win 3).blk t).view.set := by
  have h0 : (i 0).val < 8 := (i 0).2
  have h1 : (i 1).val < 2048 := (i 1).2
  have ht : 16 * (i 0).val + (i 1).val / 128 < 128 := by omega
  refine ⟨(⟨16 * (i 0).val + (i 1).val / 128, ht⟩ : Fin cfg0.N), flush0_3 _, ?_⟩
  have h := ((cfg0.win 3).blk (⟨16 * (i 0).val + (i 1).val / 128, ht⟩ : Fin cfg0.N)).view.emb_mem_set (fun a => match a with | ⟨0, _⟩ => ⟨0, Nat.one_pos⟩ | ⟨1, _⟩ => ⟨(i 1).val % 128, Nat.mod_lt _ (by decide)⟩ | ⟨2, _⟩ => i 2 : S1x128x4096.Idx)
  have he : ((cfg0.win 3).blk (⟨16 * (i 0).val + (i 1).val / 128, ht⟩ : Fin cfg0.N)).view.emb (fun a => match a with | ⟨0, _⟩ => ⟨0, Nat.one_pos⟩ | ⟨1, _⟩ => ⟨(i 1).val % 128, Nat.mod_lt _ (by decide)⟩ | ⟨2, _⟩ => i 2 : S1x128x4096.Idx) = i := by
    funext a; refine Fin.ext ((emb3 _ _ a).trans ?_)
    match a with
    | ⟨0, _⟩ => show (16 * (i 0).val + (i 1).val / 128) / 16 = (i 0).val; omega
    | ⟨1, _⟩ => show 128 * ((16 * (i 0).val + (i 1).val / 128) % 16) + (i 1).val % 128 = (i 1).val; omega
    | ⟨2, _⟩ => rfl
  rwa [he] at h

/-- The array after the run is any function whose blocks are what the points leave. -/
theorem final3 (c : Dev nD) (X : Vec F S8x2048x4096 .bf16) (h : ∀ (t : Fin cfg0.N) (j : S1x128x4096.Idx), (yBlk m c t : Vec F S1x128x4096 .bf16) j = X (((cfg0.win 3).blk t).view.emb j)) :
    (dats m 0 c).arrAt 3 cfg0.N = X :=
  (dats m 0 c).arrAt_eq_of_cover 3 X (fun t _ => by
    show (cfg0.win 3).cut (grid0.coords t) ((dats m 0 c).after 3 t) = _
    rw [after0_3]
    exact funext fun j => h t j) covered3
theorem idx4 : ∀ t : Fin cfg0.N, win0_4.index t (0 : Fin 3) = t.val / 16 ∧ win0_4.index t (1 : Fin 3) = t.val % 16 ∧ win0_4.index t (2 : Fin 3) = 0 :=
  (by decide +kernel : ∀ t : Fin grid0.N, win0_4.index t (0 : Fin 3) = t.val / 16 ∧ win0_4.index t (1 : Fin 3) = t.val % 16 ∧ win0_4.index t (2 : Fin 3) = 0)
theorem emb4 (t : Fin cfg0.N) (j : S1x128x4096.Idx) : ∀ a, (((cfg0.win 4).blk t).view.emb j a).val = (![t.val / 16, 128 * (t.val % 16) + (j 1).val, (j 2).val] : Fin 3 → ℕ) a := by
  obtain ⟨e0, e1, e2⟩ := idx4 t
  have j0 : (j 0).val < 1 := (j 0).2
  intro a
  match a with
  | ⟨0, _⟩ => show win0_4.index t (0 : Fin 3) * 1 + 1 * (j 0).val = t.val / 16; omega
  | ⟨1, _⟩ => show win0_4.index t (1 : Fin 3) * 128 + 1 * (j 1).val = 128 * (t.val % 16) + (j 1).val; omega
  | ⟨2, _⟩ => show win0_4.index t (2 : Fin 3) * 4096 + 1 * (j 2).val = (j 2).val; omega
theorem covered4 (i : S8x2048x4096.Idx) : ∃ t : Fin cfg0.N, (cfg0.win 4).flush t = true ∧ i ∈ ((cfg0.win 4).blk t).view.set := by
  have h0 : (i 0).val < 8 := (i 0).2
  have h1 : (i 1).val < 2048 := (i 1).2
  have ht : 16 * (i 0).val + (i 1).val / 128 < 128 := by omega
  refine ⟨(⟨16 * (i 0).val + (i 1).val / 128, ht⟩ : Fin cfg0.N), flush0_4 _, ?_⟩
  have h := ((cfg0.win 4).blk (⟨16 * (i 0).val + (i 1).val / 128, ht⟩ : Fin cfg0.N)).view.emb_mem_set (fun a => match a with | ⟨0, _⟩ => ⟨0, Nat.one_pos⟩ | ⟨1, _⟩ => ⟨(i 1).val % 128, Nat.mod_lt _ (by decide)⟩ | ⟨2, _⟩ => i 2 : S1x128x4096.Idx)
  have he : ((cfg0.win 4).blk (⟨16 * (i 0).val + (i 1).val / 128, ht⟩ : Fin cfg0.N)).view.emb (fun a => match a with | ⟨0, _⟩ => ⟨0, Nat.one_pos⟩ | ⟨1, _⟩ => ⟨(i 1).val % 128, Nat.mod_lt _ (by decide)⟩ | ⟨2, _⟩ => i 2 : S1x128x4096.Idx) = i := by
    funext a; refine Fin.ext ((emb4 _ _ a).trans ?_)
    match a with
    | ⟨0, _⟩ => show (16 * (i 0).val + (i 1).val / 128) / 16 = (i 0).val; omega
    | ⟨1, _⟩ => show 128 * ((16 * (i 0).val + (i 1).val / 128) % 16) + (i 1).val % 128 = (i 1).val; omega
    | ⟨2, _⟩ => rfl
  rwa [he] at h

/-- The array after the run is any function whose blocks are what the points leave. -/
theorem final4 (c : Dev nD) (X : Vec F S8x2048x4096 .fp8e4m3) (h : ∀ (t : Fin cfg0.N) (j : S1x128x4096.Idx), (asm32 fun h => code3 (xt (iblk m c 0 t) h) : Vec F S1x128x4096 .fp8e4m3) j = X (((cfg0.win 4).blk t).view.emb j)) :
    (dats m 0 c).arrAt 4 cfg0.N = X :=
  (dats m 0 c).arrAt_eq_of_cover 4 X (fun t _ => by
    show (cfg0.win 4).cut (grid0.coords t) ((dats m 0 c).after 4 t) = _
    rw [after0_4]
    exact funext fun j => h t j) covered4
theorem idx5 : ∀ t : Fin cfg0.N, win0_5.index t (0 : Fin 4) = t.val / 16 ∧ win0_5.index t (1 : Fin 4) = t.val % 16 ∧ win0_5.index t (2 : Fin 4) = 0 ∧ win0_5.index t (3 : Fin 4) = 0 :=
  (by decide +kernel : ∀ t : Fin grid0.N, win0_5.index t (0 : Fin 4) = t.val / 16 ∧ win0_5.index t (1 : Fin 4) = t.val % 16 ∧ win0_5.index t (2 : Fin 4) = 0 ∧ win0_5.index t (3 : Fin 4) = 0)
theorem emb5 (t : Fin cfg0.N) (j : S1x1x1x32.Idx) : ∀ a, (((cfg0.win 5).blk t).view.emb j a).val = (![t.val / 16, t.val % 16, 0, (j 3).val] : Fin 4 → ℕ) a := by
  obtain ⟨e0, e1, e2, e3⟩ := idx5 t
  have j0 : (j 0).val < 1 := (j 0).2
  have j1 : (j 1).val < 1 := (j 1).2
  have j2 : (j 2).val < 1 := (j 2).2
  intro a
  match a with
  | ⟨0, _⟩ => show win0_5.index t (0 : Fin 4) * 1 + 1 * (j 0).val = t.val / 16; omega
  | ⟨1, _⟩ => show win0_5.index t (1 : Fin 4) * 1 + 1 * (j 1).val = t.val % 16; omega
  | ⟨2, _⟩ => show win0_5.index t (2 : Fin 4) * 1 + 1 * (j 2).val = 0; omega
  | ⟨3, _⟩ => show win0_5.index t (3 : Fin 4) * 32 + 1 * (j 3).val = (j 3).val; omega
theorem covered5 (i : S8x16x1x32.Idx) : ∃ t : Fin cfg0.N, (cfg0.win 5).flush t = true ∧ i ∈ ((cfg0.win 5).blk t).view.set := by
  have h0 : (i 0).val < 8 := (i 0).2
  have h1 : (i 1).val < 16 := (i 1).2
  have h2 : (i 2).val < 1 := (i 2).2
  have ht : 16 * (i 0).val + (i 1).val < 128 := by omega
  refine ⟨(⟨16 * (i 0).val + (i 1).val, ht⟩ : Fin cfg0.N), flush0_5 _, ?_⟩
  have h := ((cfg0.win 5).blk (⟨16 * (i 0).val + (i 1).val, ht⟩ : Fin cfg0.N)).view.emb_mem_set (fun a => match a with | ⟨0, _⟩ => ⟨0, Nat.one_pos⟩ | ⟨1, _⟩ => ⟨0, Nat.one_pos⟩ | ⟨2, _⟩ => ⟨0, Nat.one_pos⟩ | ⟨3, _⟩ => i 3 : S1x1x1x32.Idx)
  have he : ((cfg0.win 5).blk (⟨16 * (i 0).val + (i 1).val, ht⟩ : Fin cfg0.N)).view.emb (fun a => match a with | ⟨0, _⟩ => ⟨0, Nat.one_pos⟩ | ⟨1, _⟩ => ⟨0, Nat.one_pos⟩ | ⟨2, _⟩ => ⟨0, Nat.one_pos⟩ | ⟨3, _⟩ => i 3 : S1x1x1x32.Idx) = i := by
    funext a; refine Fin.ext ((emb5 _ _ a).trans ?_)
    match a with
    | ⟨0, _⟩ => show (16 * (i 0).val + (i 1).val) / 16 = (i 0).val; omega
    | ⟨1, _⟩ => show (16 * (i 0).val + (i 1).val) % 16 = (i 1).val; omega
    | ⟨2, _⟩ => show 0 = (i 2).val; omega
    | ⟨3, _⟩ => rfl
  rwa [he] at h

/-- The array after the run is any function whose blocks are what the points leave. -/
theorem final5 (c : Dev nD) (X : Vec F S8x16x1x32 .f32) (h : ∀ (t : Fin cfg0.N) (j : S1x1x1x32.Idx), (scales32 (iblk m c 0 t) : Vec F S1x1x1x32 .f32) j = X (((cfg0.win 5).blk t).view.emb j)) :
    (dats m 0 c).arrAt 5 cfg0.N = X :=
  (dats m 0 c).arrAt_eq_of_cover 5 X (fun t _ => by
    show (cfg0.win 5).cut (grid0.coords t) ((dats m 0 c).after 5 t) = _
    rw [after0_5]
    exact funext fun j => h t j) covered5
theorem idx6 : ∀ t : Fin cfg0.N, win0_6.index t (0 : Fin 3) = t.val / 16 ∧ win0_6.index t (1 : Fin 3) = t.val % 16 ∧ win0_6.index t (2 : Fin 3) = 0 :=
  (by decide +kernel : ∀ t : Fin grid0.N, win0_6.index t (0 : Fin 3) = t.val / 16 ∧ win0_6.index t (1 : Fin 3) = t.val % 16 ∧ win0_6.index t (2 : Fin 3) = 0)
theorem emb6 (t : Fin cfg0.N) (j : S1x128x1024.Idx) : ∀ a, (((cfg0.win 6).blk t).view.emb j a).val = (![t.val / 16, 128 * (t.val % 16) + (j 1).val, (j 2).val] : Fin 3 → ℕ) a := by
  obtain ⟨e0, e1, e2⟩ := idx6 t
  have j0 : (j 0).val < 1 := (j 0).2
  intro a
  match a with
  | ⟨0, _⟩ => show win0_6.index t (0 : Fin 3) * 1 + 1 * (j 0).val = t.val / 16; omega
  | ⟨1, _⟩ => show win0_6.index t (1 : Fin 3) * 128 + 1 * (j 1).val = 128 * (t.val % 16) + (j 1).val; omega
  | ⟨2, _⟩ => show win0_6.index t (2 : Fin 3) * 1024 + 1 * (j 2).val = (j 2).val; omega
theorem covered6 (i : S8x2048x1024.Idx) : ∃ t : Fin cfg0.N, (cfg0.win 6).flush t = true ∧ i ∈ ((cfg0.win 6).blk t).view.set := by
  have h0 : (i 0).val < 8 := (i 0).2
  have h1 : (i 1).val < 2048 := (i 1).2
  have ht : 16 * (i 0).val + (i 1).val / 128 < 128 := by omega
  refine ⟨(⟨16 * (i 0).val + (i 1).val / 128, ht⟩ : Fin cfg0.N), flush0_6 _, ?_⟩
  have h := ((cfg0.win 6).blk (⟨16 * (i 0).val + (i 1).val / 128, ht⟩ : Fin cfg0.N)).view.emb_mem_set (fun a => match a with | ⟨0, _⟩ => ⟨0, Nat.one_pos⟩ | ⟨1, _⟩ => ⟨(i 1).val % 128, Nat.mod_lt _ (by decide)⟩ | ⟨2, _⟩ => i 2 : S1x128x1024.Idx)
  have he : ((cfg0.win 6).blk (⟨16 * (i 0).val + (i 1).val / 128, ht⟩ : Fin cfg0.N)).view.emb (fun a => match a with | ⟨0, _⟩ => ⟨0, Nat.one_pos⟩ | ⟨1, _⟩ => ⟨(i 1).val % 128, Nat.mod_lt _ (by decide)⟩ | ⟨2, _⟩ => i 2 : S1x128x1024.Idx) = i := by
    funext a; refine Fin.ext ((emb6 _ _ a).trans ?_)
    match a with
    | ⟨0, _⟩ => show (16 * (i 0).val + (i 1).val / 128) / 16 = (i 0).val; omega
    | ⟨1, _⟩ => show 128 * ((16 * (i 0).val + (i 1).val / 128) % 16) + (i 1).val % 128 = (i 1).val; omega
    | ⟨2, _⟩ => rfl
  rwa [he] at h

/-- The array after the run is any function whose blocks are what the points leave. -/
theorem final6 (c : Dev nD) (X : Vec F S8x2048x1024 .fp8e4m3) (h : ∀ (t : Fin cfg0.N) (j : S1x128x1024.Idx), (asm8 fun j => code3 (ut (iblk m c 1 t) j) : Vec F S1x128x1024 .fp8e4m3) j = X (((cfg0.win 6).blk t).view.emb j)) :
    (dats m 0 c).arrAt 6 cfg0.N = X :=
  (dats m 0 c).arrAt_eq_of_cover 6 X (fun t _ => by
    show (cfg0.win 6).cut (grid0.coords t) ((dats m 0 c).after 6 t) = _
    rw [after0_6]
    exact funext fun j => h t j) covered6
theorem idx7 : ∀ t : Fin cfg0.N, win0_7.index t (0 : Fin 4) = t.val / 16 ∧ win0_7.index t (1 : Fin 4) = t.val % 16 ∧ win0_7.index t (2 : Fin 4) = 0 ∧ win0_7.index t (3 : Fin 4) = 0 :=
  (by decide +kernel : ∀ t : Fin grid0.N, win0_7.index t (0 : Fin 4) = t.val / 16 ∧ win0_7.index t (1 : Fin 4) = t.val % 16 ∧ win0_7.index t (2 : Fin 4) = 0 ∧ win0_7.index t (3 : Fin 4) = 0)
theorem emb7 (t : Fin cfg0.N) (j : S1x1x1x8.Idx) : ∀ a, (((cfg0.win 7).blk t).view.emb j a).val = (![t.val / 16, t.val % 16, 0, (j 3).val] : Fin 4 → ℕ) a := by
  obtain ⟨e0, e1, e2, e3⟩ := idx7 t
  have j0 : (j 0).val < 1 := (j 0).2
  have j1 : (j 1).val < 1 := (j 1).2
  have j2 : (j 2).val < 1 := (j 2).2
  intro a
  match a with
  | ⟨0, _⟩ => show win0_7.index t (0 : Fin 4) * 1 + 1 * (j 0).val = t.val / 16; omega
  | ⟨1, _⟩ => show win0_7.index t (1 : Fin 4) * 1 + 1 * (j 1).val = t.val % 16; omega
  | ⟨2, _⟩ => show win0_7.index t (2 : Fin 4) * 1 + 1 * (j 2).val = 0; omega
  | ⟨3, _⟩ => show win0_7.index t (3 : Fin 4) * 8 + 1 * (j 3).val = (j 3).val; omega
theorem covered7 (i : S8x16x1x8.Idx) : ∃ t : Fin cfg0.N, (cfg0.win 7).flush t = true ∧ i ∈ ((cfg0.win 7).blk t).view.set := by
  have h0 : (i 0).val < 8 := (i 0).2
  have h1 : (i 1).val < 16 := (i 1).2
  have h2 : (i 2).val < 1 := (i 2).2
  have ht : 16 * (i 0).val + (i 1).val < 128 := by omega
  refine ⟨(⟨16 * (i 0).val + (i 1).val, ht⟩ : Fin cfg0.N), flush0_7 _, ?_⟩
  have h := ((cfg0.win 7).blk (⟨16 * (i 0).val + (i 1).val, ht⟩ : Fin cfg0.N)).view.emb_mem_set (fun a => match a with | ⟨0, _⟩ => ⟨0, Nat.one_pos⟩ | ⟨1, _⟩ => ⟨0, Nat.one_pos⟩ | ⟨2, _⟩ => ⟨0, Nat.one_pos⟩ | ⟨3, _⟩ => i 3 : S1x1x1x8.Idx)
  have he : ((cfg0.win 7).blk (⟨16 * (i 0).val + (i 1).val, ht⟩ : Fin cfg0.N)).view.emb (fun a => match a with | ⟨0, _⟩ => ⟨0, Nat.one_pos⟩ | ⟨1, _⟩ => ⟨0, Nat.one_pos⟩ | ⟨2, _⟩ => ⟨0, Nat.one_pos⟩ | ⟨3, _⟩ => i 3 : S1x1x1x8.Idx) = i := by
    funext a; refine Fin.ext ((emb7 _ _ a).trans ?_)
    match a with
    | ⟨0, _⟩ => show (16 * (i 0).val + (i 1).val) / 16 = (i 0).val; omega
    | ⟨1, _⟩ => show (16 * (i 0).val + (i 1).val) % 16 = (i 1).val; omega
    | ⟨2, _⟩ => show 0 = (i 2).val; omega
    | ⟨3, _⟩ => rfl
  rwa [he] at h

/-- The array after the run is any function whose blocks are what the points leave. -/
theorem final7 (c : Dev nD) (X : Vec F S8x16x1x8 .f32) (h : ∀ (t : Fin cfg0.N) (j : S1x1x1x8.Idx), (scales8 (iblk m c 1 t) : Vec F S1x1x1x8 .f32) j = X (((cfg0.win 7).blk t).view.emb j)) :
    (dats m 0 c).arrAt 7 cfg0.N = X :=
  (dats m 0 c).arrAt_eq_of_cover 7 X (fun t _ => by
    show (cfg0.win 7).cut (grid0.coords t) ((dats m 0 c).after 7 t) = _
    rw [after0_7]
    exact funext fun j => h t j) covered7
theorem idx8 : ∀ t : Fin cfg0.N, win0_8.index t (0 : Fin 3) = t.val / 16 ∧ win0_8.index t (1 : Fin 3) = t.val % 16 ∧ win0_8.index t (2 : Fin 3) = 0 :=
  (by decide +kernel : ∀ t : Fin grid0.N, win0_8.index t (0 : Fin 3) = t.val / 16 ∧ win0_8.index t (1 : Fin 3) = t.val % 16 ∧ win0_8.index t (2 : Fin 3) = 0)
theorem emb8 (t : Fin cfg0.N) (j : S1x128x1024.Idx) : ∀ a, (((cfg0.win 8).blk t).view.emb j a).val = (![t.val / 16, 128 * (t.val % 16) + (j 1).val, (j 2).val] : Fin 3 → ℕ) a := by
  obtain ⟨e0, e1, e2⟩ := idx8 t
  have j0 : (j 0).val < 1 := (j 0).2
  intro a
  match a with
  | ⟨0, _⟩ => show win0_8.index t (0 : Fin 3) * 1 + 1 * (j 0).val = t.val / 16; omega
  | ⟨1, _⟩ => show win0_8.index t (1 : Fin 3) * 128 + 1 * (j 1).val = 128 * (t.val % 16) + (j 1).val; omega
  | ⟨2, _⟩ => show win0_8.index t (2 : Fin 3) * 1024 + 1 * (j 2).val = (j 2).val; omega
theorem covered8 (i : S8x2048x1024.Idx) : ∃ t : Fin cfg0.N, (cfg0.win 8).flush t = true ∧ i ∈ ((cfg0.win 8).blk t).view.set := by
  have h0 : (i 0).val < 8 := (i 0).2
  have h1 : (i 1).val < 2048 := (i 1).2
  have ht : 16 * (i 0).val + (i 1).val / 128 < 128 := by omega
  refine ⟨(⟨16 * (i 0).val + (i 1).val / 128, ht⟩ : Fin cfg0.N), flush0_8 _, ?_⟩
  have h := ((cfg0.win 8).blk (⟨16 * (i 0).val + (i 1).val / 128, ht⟩ : Fin cfg0.N)).view.emb_mem_set (fun a => match a with | ⟨0, _⟩ => ⟨0, Nat.one_pos⟩ | ⟨1, _⟩ => ⟨(i 1).val % 128, Nat.mod_lt _ (by decide)⟩ | ⟨2, _⟩ => i 2 : S1x128x1024.Idx)
  have he : ((cfg0.win 8).blk (⟨16 * (i 0).val + (i 1).val / 128, ht⟩ : Fin cfg0.N)).view.emb (fun a => match a with | ⟨0, _⟩ => ⟨0, Nat.one_pos⟩ | ⟨1, _⟩ => ⟨(i 1).val % 128, Nat.mod_lt _ (by decide)⟩ | ⟨2, _⟩ => i 2 : S1x128x1024.Idx) = i := by
    funext a; refine Fin.ext ((emb8 _ _ a).trans ?_)
    match a with
    | ⟨0, _⟩ => show (16 * (i 0).val + (i 1).val / 128) / 16 = (i 0).val; omega
    | ⟨1, _⟩ => show 128 * ((16 * (i 0).val + (i 1).val / 128) % 16) + (i 1).val % 128 = (i 1).val; omega
    | ⟨2, _⟩ => rfl
  rwa [he] at h

/-- The array after the run is any function whose blocks are what the points leave. -/
theorem final8 (c : Dev nD) (X : Vec F S8x2048x1024 .fp8e4m3) (h : ∀ (t : Fin cfg0.N) (j : S1x128x1024.Idx), (asm8 fun j => code3 (ut (iblk m c 2 t) j) : Vec F S1x128x1024 .fp8e4m3) j = X (((cfg0.win 8).blk t).view.emb j)) :
    (dats m 0 c).arrAt 8 cfg0.N = X :=
  (dats m 0 c).arrAt_eq_of_cover 8 X (fun t _ => by
    show (cfg0.win 8).cut (grid0.coords t) ((dats m 0 c).after 8 t) = _
    rw [after0_8]
    exact funext fun j => h t j) covered8
theorem idx9 : ∀ t : Fin cfg0.N, win0_9.index t (0 : Fin 4) = t.val / 16 ∧ win0_9.index t (1 : Fin 4) = t.val % 16 ∧ win0_9.index t (2 : Fin 4) = 0 ∧ win0_9.index t (3 : Fin 4) = 0 :=
  (by decide +kernel : ∀ t : Fin grid0.N, win0_9.index t (0 : Fin 4) = t.val / 16 ∧ win0_9.index t (1 : Fin 4) = t.val % 16 ∧ win0_9.index t (2 : Fin 4) = 0 ∧ win0_9.index t (3 : Fin 4) = 0)
theorem emb9 (t : Fin cfg0.N) (j : S1x1x1x8.Idx) : ∀ a, (((cfg0.win 9).blk t).view.emb j a).val = (![t.val / 16, t.val % 16, 0, (j 3).val] : Fin 4 → ℕ) a := by
  obtain ⟨e0, e1, e2, e3⟩ := idx9 t
  have j0 : (j 0).val < 1 := (j 0).2
  have j1 : (j 1).val < 1 := (j 1).2
  have j2 : (j 2).val < 1 := (j 2).2
  intro a
  match a with
  | ⟨0, _⟩ => show win0_9.index t (0 : Fin 4) * 1 + 1 * (j 0).val = t.val / 16; omega
  | ⟨1, _⟩ => show win0_9.index t (1 : Fin 4) * 1 + 1 * (j 1).val = t.val % 16; omega
  | ⟨2, _⟩ => show win0_9.index t (2 : Fin 4) * 1 + 1 * (j 2).val = 0; omega
  | ⟨3, _⟩ => show win0_9.index t (3 : Fin 4) * 8 + 1 * (j 3).val = (j 3).val; omega
theorem covered9 (i : S8x16x1x8.Idx) : ∃ t : Fin cfg0.N, (cfg0.win 9).flush t = true ∧ i ∈ ((cfg0.win 9).blk t).view.set := by
  have h0 : (i 0).val < 8 := (i 0).2
  have h1 : (i 1).val < 16 := (i 1).2
  have h2 : (i 2).val < 1 := (i 2).2
  have ht : 16 * (i 0).val + (i 1).val < 128 := by omega
  refine ⟨(⟨16 * (i 0).val + (i 1).val, ht⟩ : Fin cfg0.N), flush0_9 _, ?_⟩
  have h := ((cfg0.win 9).blk (⟨16 * (i 0).val + (i 1).val, ht⟩ : Fin cfg0.N)).view.emb_mem_set (fun a => match a with | ⟨0, _⟩ => ⟨0, Nat.one_pos⟩ | ⟨1, _⟩ => ⟨0, Nat.one_pos⟩ | ⟨2, _⟩ => ⟨0, Nat.one_pos⟩ | ⟨3, _⟩ => i 3 : S1x1x1x8.Idx)
  have he : ((cfg0.win 9).blk (⟨16 * (i 0).val + (i 1).val, ht⟩ : Fin cfg0.N)).view.emb (fun a => match a with | ⟨0, _⟩ => ⟨0, Nat.one_pos⟩ | ⟨1, _⟩ => ⟨0, Nat.one_pos⟩ | ⟨2, _⟩ => ⟨0, Nat.one_pos⟩ | ⟨3, _⟩ => i 3 : S1x1x1x8.Idx) = i := by
    funext a; refine Fin.ext ((emb9 _ _ a).trans ?_)
    match a with
    | ⟨0, _⟩ => show (16 * (i 0).val + (i 1).val) / 16 = (i 0).val; omega
    | ⟨1, _⟩ => show (16 * (i 0).val + (i 1).val) % 16 = (i 1).val; omega
    | ⟨2, _⟩ => show 0 = (i 2).val; omega
    | ⟨3, _⟩ => rfl
  rwa [he] at h

/-- The array after the run is any function whose blocks are what the points leave. -/
theorem final9 (c : Dev nD) (X : Vec F S8x16x1x8 .f32) (h : ∀ (t : Fin cfg0.N) (j : S1x1x1x8.Idx), (scales8 (iblk m c 2 t) : Vec F S1x1x1x8 .f32) j = X (((cfg0.win 9).blk t).view.emb j)) :
    (dats m 0 c).arrAt 9 cfg0.N = X :=
  (dats m 0 c).arrAt_eq_of_cover 9 X (fun t _ => by
    show (cfg0.win 9).cut (grid0.coords t) ((dats m 0 c).after 9 t) = _
    rw [after0_9]
    exact funext fun j => h t j) covered9

/-- The run, read: each output array at what the proof data says of it, the arguments unchanged. -/
theorem run : θ_run defs (onTc (τ := τ) (main (F := F))) ⟨m, fun _ => 0, ρ⟩ (fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_v0_2) = (dats m 0 c).arrAt 5 cfg0.N
      ∧ r.2.mem ((c.tc : Thread nD τ).loc main_v0_3) = (dats m 0 c).arrAt 6 cfg0.N
      ∧ r.2.mem ((c.tc : Thread nD τ).loc main_v0_4) = (dats m 0 c).arrAt 7 cfg0.N
      ∧ r.2.mem ((c.tc : Thread nD τ).loc main_v0_5) = (dats m 0 c).arrAt 8 cfg0.N
      ∧ r.2.mem ((c.tc : Thread nD τ).loc main_v0_6) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 3, (h.1 c).1 4, (h.1 c).1 5, (h.1 c).1 6, (h.1 c).1 7, (h.1 c).1 8, (h.1 c).1 9, ((h.1 c).1 0).trans (((dats m 0 c).arrAt_in 0 rfl _).trans ((A_eq m c 0).trans (V_main_arg0 m c))), ((h.1 c).1 1).trans (((dats m 0 c).arrAt_in 1 rfl _).trans ((A_eq m c 1).trans (V_main_arg1 m c))), ((h.1 c).1 2).trans (((dats m 0 c).arrAt_in 2 rfl _).trans ((A_eq m c 2).trans (V_main_arg2 m c)))⟩) (run_main m ρ)

end Cert.KernelIdeal.Strong

end
-- ==== Proof.RefRun.lean ====
/- The reference's run: each result array after the run is one function `G_w` of the argument arrays. The reference is
   one gridless call, so every window's block is its whole array. -/
module

public import proofs.«01_k».proof.Proof.Gen.ReferenceIdeal.Frame
public import Idealize.ShloMosaic.Lib.Pipeline.Value

@[expose] public section

noncomputable section

namespace Cert.ReferenceIdeal.RefRun

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S8x2048x4096.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S8x2048x4096.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8x16x1x32.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8x2048x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8x16x1x8.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8x2048x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8x16x1x8.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_5) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_6) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_v0_3) = (dats m 0 c).arrAt 6 cfg0.N
      ∧ r.2.mem ((c : Thread nD τ).loc main_v0_4) = (dats m 0 c).arrAt 7 cfg0.N
      ∧ r.2.mem ((c : Thread nD τ).loc main_v0_5) = (dats m 0 c).arrAt 8 cfg0.N
      ∧ r.2.mem ((c : Thread nD τ).loc main_v0_6) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      post7 m r h c,
      post8 m r h c,
      post9 m r h c,
      kept_main_arg0 m r h c,
      kept_main_arg1 m r h c,
      kept_main_arg2 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S8x2048x4096.Idx) : ((cfg0.win 0).blk t).view.emb j = j := by
  obtain ⟨e0, e1, e2⟩ := idx_zero0 t
  funext a; apply Fin.ext
  match a with
  | ⟨0, _⟩ => show win0_0.index t (0 : Fin 3) * 8 + 1 * (j 0).val = (j 0).val; omega
  | ⟨1, _⟩ => show win0_0.index t (1 : Fin 3) * 2048 + 1 * (j 1).val = (j 1).val; omega
  | ⟨2, _⟩ => show win0_0.index t (2 : Fin 3) * 4096 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S8x2048x1024.Idx) : ((cfg0.win 1).blk t).view.emb j = j := by
  obtain ⟨e0, e1, e2⟩ := idx_zero1 t
  funext a; apply Fin.ext
  match a with
  | ⟨0, _⟩ => show win0_1.index t (0 : Fin 3) * 8 + 1 * (j 0).val = (j 0).val; omega
  | ⟨1, _⟩ => show win0_1.index t (1 : Fin 3) * 2048 + 1 * (j 1).val = (j 1).val; omega
  | ⟨2, _⟩ => show win0_1.index t (2 : Fin 3) * 1024 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S8x2048x1024.Idx) : ((cfg0.win 2).blk t).view.emb j = j := by
  obtain ⟨e0, e1, e2⟩ := idx_zero2 t
  funext a; apply Fin.ext
  match a with
  | ⟨0, _⟩ => show win0_2.index t (0 : Fin 3) * 8 + 1 * (j 0).val = (j 0).val; omega
  | ⟨1, _⟩ => show win0_2.index t (1 : Fin 3) * 2048 + 1 * (j 1).val = (j 1).val; omega
  | ⟨2, _⟩ => show win0_2.index t (2 : Fin 3) * 1024 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S8x2048x4096.Idx) : ((cfg0.win 3).blk t).view.emb j = j := by
  obtain ⟨e0, e1, e2⟩ := idx_zero3 t
  funext a; apply Fin.ext
  match a with
  | ⟨0, _⟩ => show win0_3.index t (0 : Fin 3) * 8 + 1 * (j 0).val = (j 0).val; omega
  | ⟨1, _⟩ => show win0_3.index t (1 : Fin 3) * 2048 + 1 * (j 1).val = (j 1).val; omega
  | ⟨2, _⟩ => show win0_3.index t (2 : Fin 3) * 4096 + 1 * (j 2).val = (j 2).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S8x2048x4096.Idx) : ((cfg0.win 4).blk t).view.emb j = j := by
  obtain ⟨e0, e1, e2⟩ := idx_zero4 t
  funext a; apply Fin.ext
  match a with
  | ⟨0, _⟩ => show win0_4.index t (0 : Fin 3) * 8 + 1 * (j 0).val = (j 0).val; omega
  | ⟨1, _⟩ => show win0_4.index t (1 : Fin 3) * 2048 + 1 * (j 1).val = (j 1).val; omega
  | ⟨2, _⟩ => show win0_4.index t (2 : Fin 3) * 4096 + 1 * (j 2).val = (j 2).val; omega

theorem hz5 : (![0, 0, 0, 0] : Fin 4 → Nat) = fun _ => 0 := funext fun a => by fin_cases a <;> rfl

/-- Window 5's block index at the one point is zero on every axis. -/
theorem idx_zero5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

/-- An index of window 5's block is the same index of its array. -/
theorem emb5 (t : Fin cfg0.N) (j : S8x16x1x32.Idx) : ((cfg0.win 5).blk t).view.emb j = j := by
  obtain ⟨e0, e1, e2, e3⟩ := idx_zero5 t
  funext a; apply Fin.ext
  match a with
  | ⟨0, _⟩ => show win0_5.index t (0 : Fin 4) * 8 + 1 * (j 0).val = (j 0).val; omega
  | ⟨1, _⟩ => show win0_5.index t (1 : Fin 4) * 16 + 1 * (j 1).val = (j 1).val; omega
  | ⟨2, _⟩ => show win0_5.index t (2 : Fin 4) * 1 + 1 * (j 2).val = (j 2).val; omega
  | ⟨3, _⟩ => show win0_5.index t (3 : Fin 4) * 32 + 1 * (j 3).val = (j 3).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S8x2048x1024.Idx) : ((cfg0.win 6).blk t).view.emb j = j := by
  obtain ⟨e0, e1, e2⟩ := idx_zero6 t
  funext a; apply Fin.ext
  match a with
  | ⟨0, _⟩ => show win0_6.index t (0 : Fin 3) * 8 + 1 * (j 0).val = (j 0).val; omega
  | ⟨1, _⟩ => show win0_6.index t (1 : Fin 3) * 2048 + 1 * (j 1).val = (j 1).val; omega
  | ⟨2, _⟩ => show win0_6.index t (2 : Fin 3) * 1024 + 1 * (j 2).val = (j 2).val; omega

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S8x16x1x8.Idx) : ((cfg0.win 7).blk t).view.emb j = j := by
  obtain ⟨e0, e1, e2, e3⟩ := idx_zero7 t
  funext a; apply Fin.ext
  match a with
  | ⟨0, _⟩ => show win0_7.index t (0 : Fin 4) * 8 + 1 * (j 0).val = (j 0).val; omega
  | ⟨1, _⟩ => show win0_7.index t (1 : Fin 4) * 16 + 1 * (j 1).val = (j 1).val; omega
  | ⟨2, _⟩ => show win0_7.index t (2 : Fin 4) * 1 + 1 * (j 2).val = (j 2).val; omega
  | ⟨3, _⟩ => show win0_7.index t (3 : Fin 4) * 8 + 1 * (j 3).val = (j 3).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S8x2048x1024.Idx) : ((cfg0.win 8).blk t).view.emb j = j := by
  obtain ⟨e0, e1, e2⟩ := idx_zero8 t
  funext a; apply Fin.ext
  match a with
  | ⟨0, _⟩ => show win0_8.index t (0 : Fin 3) * 8 + 1 * (j 0).val = (j 0).val; omega
  | ⟨1, _⟩ => show win0_8.index t (1 : Fin 3) * 2048 + 1 * (j 1).val = (j 1).val; omega
  | ⟨2, _⟩ => show win0_8.index t (2 : Fin 3) * 1024 + 1 * (j 2).val = (j 2).val; omega

theorem hz9 : (![0, 0, 0, 0] : Fin 4 → Nat) = fun _ => 0 := funext fun a => by fin_cases a <;> rfl

/-- Window 9's block index at the one point is zero on every axis. -/
theorem idx_zero9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)

/-- An index of window 9's block is the same index of its array. -/
theorem emb9 (t : Fin cfg0.N) (j : S8x16x1x8.Idx) : ((cfg0.win 9).blk t).view.emb j = j := by
  obtain ⟨e0, e1, e2, e3⟩ := idx_zero9 t
  funext a; apply Fin.ext
  match a with
  | ⟨0, _⟩ => show win0_9.index t (0 : Fin 4) * 8 + 1 * (j 0).val = (j 0).val; omega
  | ⟨1, _⟩ => show win0_9.index t (1 : Fin 4) * 16 + 1 * (j 1).val = (j 1).val; omega
  | ⟨2, _⟩ => show win0_9.index t (2 : Fin 4) * 1 + 1 * (j 2).val = (j 2).val; omega
  | ⟨3, _⟩ => show win0_9.index t (3 : Fin 4) * 8 + 1 * (j 3).val = (j 3).val; omega

/-! ### Output window 3: the array after the run -/

/-- What the window's array ends holding: `out0_3` applied to the argument arrays in place of the input blocks (a value that the
    frame states apart, `kK_payN a…`, keeps its loads inside its own definition). -/
abbrev G3 (a0 : Vec F S8x2048x4096 .bf16) (a1 : Vec F S8x2048x1024 .bf16) (a2 : Vec F S8x2048x1024 .bf16) : Vec F S8x2048x4096 .bf16 :=
  k0_pay1 (k0_pay30 a0 a1 a2) (k0_pay17 (k0_pay31 a0 a1 a2) (k0_pay32 a0 a1 a2)) (k0_pay23 (k0_pay33 a0 a1 a2) (k0_pay34 a0 a1 a2)) (k0_pay24 (k0_pay33 a0 a1 a2) (k0_pay34 a0 a1 a2)) (k0_pay25 (k0_pay33 a0 a1 a2) (k0_pay34 a0 a1 a2))

/-- The one store through the whole rectangle leaves its payload. -/
theorem out3_eq (a0 : Vec F S8x2048x4096 .bf16) (a1 : Vec F S8x2048x1024 .bf16) (a2 : Vec F S8x2048x1024 .bf16) : out0_3 (F := F) a0 a1 a2 = G3 a0 a1 a2 := by
  unfold out0_3
  rw [View.canon_unit_zero hz3]

/-- Cutting the point's block out of `X` and reading `X` through the block's view give the same. -/
theorem cut3_eq (t : Fin cfg0.N) (X : Vec F S8x2048x4096 .bf16) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S8x2048x4096.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S8x2048x4096 .bf16) (a1 : Vec F S8x2048x1024 .bf16) (a2 : Vec F S8x2048x1024 .bf16) : Vec F S8x2048x4096 .fp8e4m3 :=
  k0_pay27 a0 a1 a2

/-- The one store through the whole rectangle leaves its payload. -/
theorem out4_eq (a0 : Vec F S8x2048x4096 .bf16) (a1 : Vec F S8x2048x1024 .bf16) (a2 : Vec F S8x2048x1024 .bf16) : out0_4 (F := F) a0 a1 a2 = G4 a0 a1 a2 := by
  unfold out0_4
  rw [View.canon_unit_zero hz4]

/-- Cutting the point's block out of `X` and reading `X` through the block's view give the same. -/
theorem cut4_eq (t : Fin cfg0.N) (X : Vec F S8x2048x4096 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S8x2048x4096.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S8x2048x4096 .bf16) (a1 : Vec F S8x2048x1024 .bf16) (a2 : Vec F S8x2048x1024 .bf16) : Vec F S8x16x1x32 .f32 :=
  k0_pay18 (k0_pay26 a0 a1 a2)

/-- The one store through the whole rectangle leaves its payload. -/
theorem out5_eq (a0 : Vec F S8x2048x4096 .bf16) (a1 : Vec F S8x2048x1024 .bf16) (a2 : Vec F S8x2048x1024 .bf16) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S8x16x1x32 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S8x16x1x32.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S8x2048x4096 .bf16) (a1 : Vec F S8x2048x1024 .bf16) (a2 : Vec F S8x2048x1024 .bf16) : Vec F S8x2048x1024 .fp8e4m3 :=
  k0_pay29 a0 a1 a2

/-- The one store through the whole rectangle leaves its payload. -/
theorem out6_eq (a0 : Vec F S8x2048x4096 .bf16) (a1 : Vec F S8x2048x1024 .bf16) (a2 : Vec F S8x2048x1024 .bf16) : out0_6 (F := F) a0 a1 a2 = G6 a0 a1 a2 := by
  unfold out0_6
  rw [View.canon_unit_zero hz6]

/-- Cutting the point's block out of `X` and reading `X` through the block's view give the same. -/
theorem cut6_eq (t : Fin cfg0.N) (X : Vec F S8x2048x1024 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S8x2048x1024.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ### Output window 7: the array after the run -/

/-- What the window's array ends holding: `out0_7` applied to the argument arrays in place of the input blocks (a value that the
    frame states apart, `kK_payN a…`, keeps its loads inside its own definition). -/
abbrev G7 (a0 : Vec F S8x2048x4096 .bf16) (a1 : Vec F S8x2048x1024 .bf16) (a2 : Vec F S8x2048x1024 .bf16) : Vec F S8x16x1x8 .f32 :=
  k0_pay19 (k0_pay28 a0 a1 a2)

/-- The one store through the whole rectangle leaves its payload. -/
theorem out7_eq (a0 : Vec F S8x2048x4096 .bf16) (a1 : Vec F S8x2048x1024 .bf16) (a2 : Vec F S8x2048x1024 .bf16) : out0_7 (F := F) a0 a1 a2 = G7 a0 a1 a2 := by
  unfold out0_7
  rw [View.canon_unit_zero hz7]

/-- Cutting the point's block out of `X` and reading `X` through the block's view give the same. -/
theorem cut7_eq (t : Fin cfg0.N) (X : Vec F S8x16x1x8 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2)) := by
  show (cfg0.win 7).cut (grid0.coords t) ((dats m 0 c).after 7 t) = _
  rw [after0_7, out7_eq, iblk0_eq, iblk1_eq, iblk2_eq]
  exact cut7_eq t _

/-- Every index of the array is in the point's block. -/
theorem covered7 (i : S8x16x1x8.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) :=
  ((dats m 0 c).arrAt_eq_of_cover 7 (G7 (V m c main_arg0) (V m c main_arg1) (V m c main_arg2)) (fun t _ => flushed7_eq m c t) covered7).trans (by rw [V_main_arg0, V_main_arg1, V_main_arg2])

/-! ### Output window 8: the array after the run -/

/-- What the window's array ends holding: `out0_8` applied to the argument arrays in place of the input blocks (a value that the
    frame states apart, `kK_payN a…`, keeps its loads inside its own definition). -/
abbrev G8 (a0 : Vec F S8x2048x4096 .bf16) (a1 : Vec F S8x2048x1024 .bf16) (a2 : Vec F S8x2048x1024 .bf16) : Vec F S8x2048x1024 .fp8e4m3 :=
  k0_pay17 (k0_pay31 a0 a1 a2) (k0_pay32 a0 a1 a2)

/-- The one store through the whole rectangle leaves its payload. -/
theorem out8_eq (a0 : Vec F S8x2048x4096 .bf16) (a1 : Vec F S8x2048x1024 .bf16) (a2 : Vec F S8x2048x1024 .bf16) : out0_8 (F := F) a0 a1 a2 = G8 a0 a1 a2 := by
  unfold out0_8
  rw [View.canon_unit_zero hz8]

/-- Cutting the point's block out of `X` and reading `X` through the block's view give the same. -/
theorem cut8_eq (t : Fin cfg0.N) (X : Vec F S8x2048x1024 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2)) := by
  show (cfg0.win 8).cut (grid0.coords t) ((dats m 0 c).after 8 t) = _
  rw [after0_8, out8_eq, iblk0_eq, iblk1_eq, iblk2_eq]
  exact cut8_eq t _

/-- Every index of the array is in the point's block. -/
theorem covered8 (i : S8x2048x1024.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) :=
  ((dats m 0 c).arrAt_eq_of_cover 8 (G8 (V m c main_arg0) (V m c main_arg1) (V m c main_arg2)) (fun t _ => flushed8_eq m c t) covered8).trans (by rw [V_main_arg0, V_main_arg1, V_main_arg2])

/-! ### Output window 9: the array after the run -/

/-- What the window's array ends holding: `out0_9` applied to the argument arrays in place of the input blocks (a value that the
    frame states apart, `kK_payN a…`, keeps its loads inside its own definition). -/
abbrev G9 (a0 : Vec F S8x2048x4096 .bf16) (a1 : Vec F S8x2048x1024 .bf16) (a2 : Vec F S8x2048x1024 .bf16) : Vec F S8x16x1x8 .f32 :=
  k0_pay20 (k0_pay30 a0 a1 a2)

/-- The one store through the whole rectangle leaves its payload. -/
theorem out9_eq (a0 : Vec F S8x2048x4096 .bf16) (a1 : Vec F S8x2048x1024 .bf16) (a2 : Vec F S8x2048x1024 .bf16) : out0_9 (F := F) a0 a1 a2 = G9 a0 a1 a2 := by
  unfold out0_9
  rw [View.canon_unit_zero hz9]

/-- Cutting the point's block out of `X` and reading `X` through the block's view give the same. -/
theorem cut9_eq (t : Fin cfg0.N) (X : Vec F S8x16x1x8 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2)) := by
  show (cfg0.win 9).cut (grid0.coords t) ((dats m 0 c).after 9 t) = _
  rw [after0_9, out9_eq, iblk0_eq, iblk1_eq, iblk2_eq]
  exact cut9_eq t _

/-- Every index of the array is in the point's block. -/
theorem covered9 (i : S8x16x1x8.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) :=
  ((dats m 0 c).arrAt_eq_of_cover 9 (G9 (V m c main_arg0) (V m c main_arg1) (V m c main_arg2)) (fun t _ => flushed9_eq m c t) covered9).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_v0_5) = G8 (m ((c : Thread nD τ).loc main_arg0)) (m ((c : Thread nD τ).loc main_arg1)) (m ((c : Thread nD τ).loc main_arg2))
      ∧ r.2.mem ((c : Thread nD τ).loc main_v0_6) = G9 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c⟩)
    (run_main m ρ)

end Cert.ReferenceIdeal.RefRun

end
-- ==== Proof.Math.Bits.lean ====
module

public import Idealize.ShloMosaic.Lib.Claim
public import Idealize.ShloMosaic.Lib.Pointwise
public import Mathlib.Data.BitVec

@[expose] public section

set_option maxRecDepth 16384

noncomputable section

namespace Cert.Math

open Idealize.ShloMosaic

theorem ofBits_of (b : BitVec 32) (n : ℕ) (b1 : (b.extractLsb' 31 1 == 1#1) = false) (b2 : (b.extractLsb' 23 8).toNat = n)
    (b3 : (b.extractLsb' 0 23).toNat = 0) (h1 : 1 ≤ n) (h2 : n ≤ 254) :
    Ideal.ofBits .f32 b = (((2 : ℝ) ^ ((n : ℤ) - 127) : ℝ) : EReal) := by
  have e : Ideal.ofBits .f32 b = Ideal.ieee 8 23 b := rfl
  rw [e]
  unfold Ideal.ieee
  simp only [Nat.reduceAdd, b1, b2, b3]
  rw [if_neg (by omega), if_neg (by omega)]
  apply congrArg Real.toEReal
  have h2 : (2 : ℝ) ≠ 0 := by norm_num
  simp only [Bool.false_eq_true, if_false, one_mul, Nat.add_zero, Nat.cast_pow, Nat.cast_ofNat]
  rw [← zpow_natCast, ← zpow_add₀ h2]
  congr 1
  norm_num

theorem ofBits_top_of (b : BitVec 32) (b1 : (b.extractLsb' 31 1 == 1#1) = false) (b2 : (b.extractLsb' 23 8).toNat = 255)
    (b3 : (b.extractLsb' 0 23).toNat = 0) : Ideal.ofBits .f32 b = ⊤ := by
  have e : Ideal.ofBits .f32 b = Ideal.ieee 8 23 b := rfl
  rw [e]
  unfold Ideal.ieee
  simp only [Nat.reduceAdd, b1, b2, b3]
  rfl

/-- The power of two whose exponent field is `N`. -/
theorem ofBits_pow (N : Fin 255) (h : 1 ≤ N.val) :
    Ideal.ofBits .f32 (BitVec.ofNat 32 N.val <<< (23#32)) = (((2 : ℝ) ^ ((N.val : ℤ) - 127) : ℝ) : EReal) := by
  have hb : ∀ N : Fin 255, ((BitVec.ofNat 32 N.val <<< (23#32)).extractLsb' 31 1 == 1#1) = false ∧
      ((BitVec.ofNat 32 N.val <<< (23#32)).extractLsb' 23 8).toNat = N.val ∧
      ((BitVec.ofNat 32 N.val <<< (23#32)).extractLsb' 0 23).toNat = 0 := by decide
  obtain ⟨b1, b2, b3⟩ := hb N
  exact ofBits_of _ _ b1 b2 b3 h (by have := N.2; omega)

theorem exp2_int (e : BitVec 32) : FloatOps.exp2 (F := Ideal) (FloatOps.sitofp .f32 e) = (((2 : ℝ) ^ (e.toInt) : ℝ) : EReal) := by
  show Ideal.exp2 ((e.toInt : ℝ) : EReal) = _
  rw [Ideal.exp2_coe]
  congr 1
  exact Real.rpow_intCast 2 e.toInt

/-- The power of two read as bits is the power of two. -/
theorem scale_bits (e : BitVec 32) (h : -126 ≤ e.toInt) (h' : e.toInt ≤ 127) :
    Ideal.ofBits .f32 (IntOp.shli .vector (IntOp.addi e 127#32) 23#32) = (((2 : ℝ) ^ (e.toInt) : ℝ) : EReal) := by
  have hl := BitVec.toInt_lt (x := e)
  have hs := BitVec.le_toInt (x := e)
  have key : e + 127#32 = BitVec.ofNat 32 (e.toInt + 127).toNat := by
    apply BitVec.eq_of_toInt_eq
    have h127 : (127#32 : BitVec 32).toInt = 127 := by decide
    rw [BitVec.toInt_add, h127, BitVec.toInt_ofNat', Int.toNat_of_nonneg (by omega)]
  show Ideal.ofBits .f32 (if (23#32).toNat < 32 then (e + 127#32) <<< (23#32) else _) = _
  rw [if_pos (by decide), key]
  have := ofBits_pow ⟨(e.toInt + 127).toNat, by omega⟩ (by show 1 ≤ (e.toInt + 127).toNat; omega)
  rw [this]
  apply congrArg Real.toEReal
  congr 1
  show (((e.toInt + 127).toNat : ℕ) : ℤ) - 127 = _
  rw [Int.toNat_of_nonneg (by omega)]; ring

/-- The powers of two an exponent is counted against, read as bits. -/
def powBits (k : ℕ) : BitVec 32 := IntOp.shli .vector (IntOp.minsi (IntOp.addi (BitVec.ofNat 32 k) 1#32) 255#32) 23#32

theorem powBits_lt (k : Fin 254) : Ideal.ofBits .f32 (powBits k.val) = FloatOps.exp2 (F := Ideal) (FloatOps.sitofp .f32 (IntOp.subi (BitVec.ofNat 32 k.val) 126#32)) := by
  have hb : ∀ k : Fin 254, powBits k.val = BitVec.ofNat 32 (k.val + 1) <<< (23#32) := by decide
  have hi : ∀ k : Fin 254, (IntOp.subi (BitVec.ofNat 32 k.val) 126#32).toInt = (k.val : ℤ) - 126 := by decide
  rw [hb, exp2_int, hi]
  have := ofBits_pow ⟨k.val + 1, by omega⟩ (by show 1 ≤ k.val + 1; omega)
  rw [this]
  apply congrArg Real.toEReal
  congr 1
  show ((k.val + 1 : ℕ) : ℤ) - 127 = _
  push_cast; ring

theorem powBits_top : Ideal.ofBits .f32 (255#32 <<< (23#32)) = ⊤ := ofBits_top_of _ (by decide) (by decide) (by decide)
theorem powBits_254 : Ideal.ofBits .f32 (powBits 254) = ⊤ := powBits_top
theorem powBits_255 : Ideal.ofBits .f32 (powBits 255) = ⊤ := powBits_top

/-- A yes-or-no as a 32-bit one or zero. -/
def bit (p : Prop) [Decidable p] : BitVec 32 := BitVec.setWidth 32 (BitVec.ofBool (decide p))

/-- How many of the first `N` powers of two are at most `a`. -/
def cntK (a : EReal) : BitVec 32 :=
  Finset.fold IntOp.addi (0#32) (fun k : Fin 256 => BitVec.setWidth 32 (BitVec.ofBool (decide (Ideal.ofBits .f32 (powBits k.val) ≤ a)))) Finset.univ
def cntR (a : EReal) : BitVec 32 :=
  Finset.fold IntOp.addi (0#32) (fun k : Fin 254 => BitVec.setWidth 32 (BitVec.ofBool (decide (FloatOps.exp2 (F := Ideal) (FloatOps.sitofp .f32 (IntOp.subi (BitVec.ofNat 32 k.val) 126#32)) ≤ a)))) Finset.univ

/-- The exponent a count stands for. -/
def expo (amax : EReal) (n : BitVec 32) : BitVec 32 :=
  if amax = 0 then 0#32 else Scalar.select (IntOp.ori (IntOp.cmpi .eq n 0#32) (IntOp.cmpi .sgt n 246#32)) 0#32 (IntOp.subi n 126#32)

theorem fold_addi {ι : Type} (s : Finset ι) (f : ι → BitVec 32) : Finset.fold IntOp.addi (0#32) f s = ∑ i ∈ s, f i := by
  rw [Finset.sum_eq_fold]; rfl

theorem cntK_eq (a : EReal) : cntK a = if a = ⊤ then cntR a + 2#32 else cntR a := by
  unfold cntK cntR
  rw [fold_addi, fold_addi]
  rw [Fin.sum_univ_castSucc, Fin.sum_univ_castSucc]
  have h : ∀ k : Fin 254, (BitVec.setWidth 32 (BitVec.ofBool (decide (Ideal.ofBits .f32 (powBits (k.castSucc.castSucc : Fin 256).val) ≤ a))))
      = BitVec.setWidth 32 (BitVec.ofBool (decide (FloatOps.exp2 (F := Ideal) (FloatOps.sitofp .f32 (IntOp.subi (BitVec.ofNat 32 k.val) 126#32)) ≤ a))) := by
    intro k
    have := powBits_lt k
    rw [← this]; rfl
  rw [Finset.sum_congr rfl (fun k _ => h k)]
  have e1 : Ideal.ofBits .f32 (powBits ((Fin.last 254).castSucc : Fin 256).val) = ⊤ := powBits_254
  have e2 : Ideal.ofBits .f32 (powBits (Fin.last 255 : Fin 256).val) = ⊤ := powBits_255
  rw [e1, e2]
  by_cases ha : a = ⊤
  · subst ha
    rw [if_pos rfl, add_assoc]
    congr 1
  · rw [if_neg ha]
    have : ¬ (⊤ ≤ a) := fun h => ha (top_le_iff.mp h)
    simp [this]

theorem cntR_top : cntR ⊤ = 254#32 := by
  unfold cntR
  rw [fold_addi]
  simp

/-- Counting with the two further powers, read as infinite, leaves the exponent. -/
theorem expo_cnt (amax a : EReal) : expo amax (cntK a) = expo amax (cntR a) := by
  rw [cntK_eq]
  by_cases ha : a = ⊤
  · subst ha
    rw [if_pos rfl, cntR_top]
    unfold expo
    split_ifs <;> decide
  · rw [if_neg ha]

/-- A count of at most `2 ^ 31` terms is between nought and their number. -/
theorem sum_bits_le (n : ℕ) (f : Fin n → Bool) (hn : n < 2 ^ 31) :
    (∑ k, BitVec.setWidth 32 (BitVec.ofBool (f k))).toNat ≤ n := by
  induction n with
  | zero => simp
  | succ n ih =>
    rw [Fin.sum_univ_castSucc]
    have := ih (fun k => f k.castSucc) (by omega)
    have h1 : (BitVec.setWidth 32 (BitVec.ofBool (f (Fin.last n)))).toNat ≤ 1 := by
      cases f (Fin.last n) <;> decide
    rw [BitVec.toNat_add]
    exact (Nat.mod_le _ _).trans (by omega)

/-- The exponent lies within the range a scale and its reciprocal are exact in. -/
theorem expo_range (amax a : EReal) : -125 ≤ (expo amax (cntR a)).toInt ∧ (expo amax (cntR a)).toInt ≤ 120 := by
  have hn : (cntR a).toNat ≤ 254 := by
    unfold cntR
    rw [fold_addi]
    exact sum_bits_le 254 _ (by norm_num)
  have key : ∀ N : Fin 255, -125 ≤ (Scalar.select (IntOp.ori (IntOp.cmpi .eq (BitVec.ofNat 32 N.val) 0#32) (IntOp.cmpi .sgt (BitVec.ofNat 32 N.val) 246#32)) 0#32 (IntOp.subi (BitVec.ofNat 32 N.val) 126#32)).toInt
      ∧ (Scalar.select (IntOp.ori (IntOp.cmpi .eq (BitVec.ofNat 32 N.val) 0#32) (IntOp.cmpi .sgt (BitVec.ofNat 32 N.val) 246#32)) 0#32 (IntOp.subi (BitVec.ofNat 32 N.val) 126#32)).toInt ≤ 120 := by decide
  have e : cntR a = BitVec.ofNat 32 (cntR a).toNat := by simp
  unfold expo
  split_ifs
  · exact ⟨by decide, by decide⟩
  · have := key ⟨(cntR a).toNat, by omega⟩
    rw [e]; exact this

theorem neg_toInt (e : BitVec 32) (h : -125 ≤ e.toInt) (h' : e.toInt ≤ 120) : (IntOp.subi 0#32 e).toInt = - e.toInt := by
  show (0#32 - e).toInt = _
  rw [BitVec.toInt_sub]
  show (0 - e.toInt).bmod (2 ^ 32) = _
  rw [Int.bmod_eq_of_le] <;> omega

end Cert.Math
end
-- ==== Proof.Math.Spec.lean ====
module

public import proofs.«01_k».proof.Proof.Math.Bits

@[expose] public section

set_option maxRecDepth 16384

noncomputable section

namespace Cert.Math

open Idealize.ShloMosaic

/-- A tile's largest magnitude. -/
def tmx (T : Fin 128 → Fin 128 → EReal) : EReal :=
  Finset.fold max (Ideal.ofBits .f32 4286578688#32) (fun p : Fin 128 × Fin 128 => max (T p.1 p.2) (-T p.1 p.2)) Finset.univ
/-- A tile's scale exponent. -/
def ex (T : Fin 128 → Fin 128 → EReal) : BitVec 32 := expo (tmx T) (cntR (tmx T * Ideal.ofBits .f32 991054117#32))
/-- A tile's scale. -/
def scR (T : Fin 128 → Fin 128 → EReal) : ℝ := (2 : ℝ) ^ ((ex T).toInt)
def scE (T : Fin 128 → Fin 128 → EReal) : EReal := ((scR T : ℝ) : EReal)
/-- A tile's code. -/
def cd (T : Fin 128 → Fin 128 → EReal) (a b : Fin 128) : EReal :=
  min (Ideal.ofBits .f32 1138753536#32) (max (Ideal.ofBits .f32 3286237184#32) (T a b * (((scR T)⁻¹ : ℝ) : EReal)))

theorem neg_inf : Ideal.ofBits .f32 4286578688#32 = ⊥ := by
  have b1 : ((4286578688#32).extractLsb' 31 1 == 1#1) = true := by decide
  have b2 : ((4286578688#32).extractLsb' 23 8).toNat = 255 := by decide
  have b3 : ((4286578688#32).extractLsb' 0 23).toNat = 0 := by decide
  have e : Ideal.ofBits .f32 4286578688#32 = Ideal.ieee 8 23 4286578688#32 := rfl
  rw [e]
  unfold Ideal.ieee
  simp only [Nat.reduceAdd, b1, b2, b3]
  rfl

theorem ex_range (T : Fin 128 → Fin 128 → EReal) : -125 ≤ (ex T).toInt ∧ (ex T).toInt ≤ 120 := expo_range _ _

theorem scR_pos (T : Fin 128 → Fin 128 → EReal) : 0 < scR T := by unfold scR; positivity

theorem scale_K (T : Fin 128 → Fin 128 → EReal) :
    Ideal.ofBits .f32 (IntOp.shli .vector (IntOp.addi (ex T) 127#32) 23#32) = scE T := by
  have := ex_range T
  exact scale_bits _ (by omega) (by omega)
theorem scale_R (T : Fin 128 → Fin 128 → EReal) : FloatOps.exp2 (F := Ideal) (FloatOps.sitofp .f32 (ex T)) = scE T := exp2_int _
theorem inv_K (T : Fin 128 → Fin 128 → EReal) :
    Ideal.ofBits .f32 (IntOp.shli .vector (IntOp.addi (IntOp.subi 0#32 (ex T)) 127#32) 23#32) = (((scR T)⁻¹ : ℝ) : EReal) := by
  have := ex_range T
  have h := neg_toInt (ex T) this.1 this.2
  rw [scale_bits _ (by omega) (by omega), h]
  unfold scR; rw [zpow_neg]
theorem inv_R (T : Fin 128 → Fin 128 → EReal) :
    FloatOps.exp2 (F := Ideal) (FloatOps.sitofp .f32 (IntOp.subi 0#32 (ex T))) = (((scR T)⁻¹ : ℝ) : EReal) := by
  have := ex_range T
  have h := neg_toInt (ex T) this.1 this.2
  rw [exp2_int, h]
  unfold scR; rw [zpow_neg]

/-- Two maxima over sets of entries are equal when each set's entries are among the other's. -/
theorem fold_max_eq {ι κ : Type} (b : EReal) (s : Finset ι) (t : Finset κ) (f : ι → EReal) (g : κ → EReal)
    (h : ∀ i ∈ s, ∃ k ∈ t, f i = g k) (h' : ∀ k ∈ t, ∃ i ∈ s, g k = f i) : Finset.fold max b f s = Finset.fold max b g t := by
  apply le_antisymm
  · rw [Finset.fold_max_le]
    refine ⟨(Finset.le_fold_max b).mpr (.inl le_rfl), fun i hi => ?_⟩
    obtain ⟨k, hk, e⟩ := h i hi
    rw [e]; exact (Finset.le_fold_max _).mpr (.inr ⟨k, hk, le_rfl⟩)
  · rw [Finset.fold_max_le]
    refine ⟨(Finset.le_fold_max b).mpr (.inl le_rfl), fun i hi => ?_⟩
    obtain ⟨k, hk, e⟩ := h' i hi
    rw [e]; exact (Finset.le_fold_max _).mpr (.inr ⟨k, hk, le_rfl⟩)

end Cert.Math
end
-- ==== Proof.Math.KerQ.lean ====
module

public import proofs.«01_k».proof.Proof.Strong.Asm
public import proofs.«01_k».proof.Proof.Math.Spec

@[expose] public section

set_option maxRecDepth 16384

noncomputable section

namespace Cert.KernelIdeal.Math

open Cert.KernelIdeal Cert.KernelIdeal.Gen Cert.Math
open Cert.KernelIdeal.Strong (ten scl tcl code code3 code4 codeT4 row512 cqr sel selN scales8 scales32 xt ut)
open Idealize.ShloMosaic

/-- A tile by row and column. -/
def tl (x : Vec Ideal S1x128x128 .bf16) : Fin 128 → Fin 128 → EReal := fun a b => x (ix3 0 a b)

theorem ten_at (x : Vec Ideal S1x128x128 .bf16) (b c : Fin 1) : ten x (ix2 b c) = ex (tl x) := by
  obtain rfl : b = 0 := Subsingleton.elim _ _
  obtain rfl : c = 0 := Subsingleton.elim _ _
  unfold ten
  pointwise [k0_pay33, k0_pay32]
  exact expo_cnt (tmx (tl x)) (tmx (tl x) * Ideal.ofBits .f32 991054117#32)

theorem scl_at (x : Vec Ideal S1x128x128 .bf16) (b c : Fin 1) : scl x (ix2 b c) = scE (tl x) := by
  unfold scl
  pointwise [k0_pay34]
  rw [ten_at]
  exact scale_K (tl x)

theorem tcl_at (x : Vec Ideal S1x128x128 .bf16) (b c : Fin 128) : tcl x (ix2 b c) = cd (tl x) b c := by
  unfold tcl
  pointwise [k0_pay44, k0_pay32]
  rw [ten_at, inv_K]
  rfl

theorem code_at (x : Vec Ideal S1x128x128 .bf16) (b c : Fin 128) : code x (ix2 b c) = cd (tl x) b c := tcl_at x b c

theorem code3_at (x : Vec Ideal S1x128x128 .bf16) (z : Fin 1) (b c : Fin 128) : code3 x (ix3 z b c) = cd (tl x) b c := by
  unfold code3
  pointwise []
  exact code_at x b c

theorem code4_at (x : Vec Ideal S1x128x128 .bf16) (y z : Fin 1) (b c : Fin 128) : code4 x (ix4 y z b c) = cd (tl x) b c := by
  unfold code4
  pointwise []
  exact code_at x b c

theorem codeT4_at (x : Vec Ideal S1x128x128 .bf16) (y z : Fin 1) (b c : Fin 128) : codeT4 x (ix4 y z b c) = cd (tl x) c b := by
  unfold codeT4
  pointwise []
  exact tcl_at x c b

theorem row512_at (x : Vec Ideal S1x128x128 .bf16) (z : Fin 1) (c : Fin 512) : row512 x (ix2 z c) = scE (tl x) := by
  unfold row512
  pointwise [k0_pay47]
  exact scl_at x _ _

theorem cqr_at (x : Vec Ideal S1x128x128 .bf16) (z : Fin 1) (c : Fin 128) :
    cqr x (ix2 z c) = scE (tl x) * Named.named (F := Ideal) κ "cap_scale" (φ := .f32) 0x3AE7B46A#32 := by
  unfold cqr
  pointwise [k0_pay545]
  rw [scl_at]

theorem sel_at (n : ℕ) (hn : n < 128) (T : Vec Ideal S1x128x128 .bf16) (r : FVec Ideal S1x128 .f32) (z : Fin 1) (c : Fin 128) :
    sel n T r (ix2 z c) = if c.val = n then scE (tl T) else r (ix2 z c) := by
  unfold sel
  pointwise []
  rw [scl_at]
  have hc := c.2
  by_cases h : c.val = n
  · rw [if_pos h, h]
    simp [IntOp.cmpi, Scalar.select]
  · have hne : (BitVec.ofNat 32 c.val == BitVec.ofNat 32 n) = false := by
      rw [beq_eq_false_iff_ne]
      intro he
      have := congrArg BitVec.toNat he
      rw [BitVec.toNat_ofNat, BitVec.toNat_ofNat, Nat.mod_eq_of_lt (by omega), Nat.mod_eq_of_lt (by omega)] at this
      exact h this
    rw [if_neg h]
    simp [IntOp.cmpi, Scalar.select, hne]

theorem selN_at (T : ℕ → Vec Ideal S1x128x128 .bf16) (z : Fin 1) (c : Fin 128) : ∀ n ≤ 128, c.val < n → selN T n (ix2 z c) = scE (tl (T c.val))
  | 0, _, h => absurd h (Nat.not_lt_zero _)
  | n + 1, hn, h => by
    show sel n (T n) (selN T n) (ix2 z c) = _
    rw [sel_at n (by omega)]
    split_ifs with hc
    · rw [hc]
    · exact selN_at T z c n (by omega) (by omega)

theorem scales8_at (X : Vec Ideal S1x128x1024 .bf16) (x y z : Fin 1) (j : Fin 8) : scales8 X (ix4 x y z j) = scE (tl (ut X j)) := by
  unfold scales8
  pointwise []
  rw [selN_at _ _ _ 8 (by omega) (by have := j.2; simp)]
  congr 2
  exact congrArg _ (Fin.ext (Nat.mod_eq_of_lt j.2))

theorem scales32_at (X : Vec Ideal S1x128x4096 .bf16) (x y z : Fin 1) (j : Fin 32) : scales32 X (ix4 x y z j) = scE (tl (xt X j)) := by
  unfold scales32
  pointwise []
  rw [selN_at _ _ _ 32 (by omega) (by have := j.2; simp)]
  congr 2
  exact congrArg _ (Fin.ext (Nat.mod_eq_of_lt j.2))

end Cert.KernelIdeal.Math
end
-- ==== Proof.Math.RefQ.lean ====
module

public import proofs.«01_k».proof.Proof.Gen.ReferenceIdeal.Skeleton
public import proofs.«01_k».proof.Proof.Math.Spec

@[expose] public section

set_option maxRecDepth 16384

noncomputable section

namespace Cert.ReferenceIdeal.Math

open Cert.ReferenceIdeal Cert.ReferenceIdeal.Gen Cert.Math
open Idealize.ShloMosaic

/-- The tile of block `n` and head `h`. -/
def tq (x : Vec Ideal S8x2048x4096 .bf16) (b : Fin 8) (n : Fin 16) (h : Fin 32) : Fin 128 → Fin 128 → EReal :=
  fun r l => x (ix3 b ⟨n.val * 128 + r.val, by omega⟩ ⟨h.val * 128 + l.val, by omega⟩)
def tk (x : Vec Ideal S8x2048x1024 .bf16) (b : Fin 8) (n : Fin 16) (h : Fin 8) : Fin 128 → Fin 128 → EReal :=
  fun r l => x (ix3 b ⟨n.val * 128 + r.val, by omega⟩ ⟨h.val * 128 + l.val, by omega⟩)

/-- The exponents from the tiles' largest magnitudes. -/
def exp32 (v6 : FVec Ideal S8x16x32 .f32) : IVec S8x16x32 32 :=
  have v8 := mulf v6 (broadcast S8x16x32 (Scalar.ofBits .f32 0x3B124925#32 : Ideal .f32))
  have v13 : FVec Ideal S8x16x32x254 .f32 := exp2 (sitofp .f32 (subi (iota .tc S8x16x32x254 32 [3] iota_S8x16x32x254_d3_w32) (broadcast S8x16x32x254 126#32)))
  have v15 : FVec Ideal S8x16x32x254 .f32 := broadcastTo S8x16x32x254 (shapeCast S8x16x32x1 v8 shapeCasts_S8x16x32_S8x16x32x1) broadcasts_S8x16x32x1_S8x16x32x254
  have v18 : IVec S8x16x32 32 := multiReductionI .add [3] S8x16x32 (extui 32 (cmpf .oge v15 v13) natLt_1_32) 0#32 reduces_S8x16x32x254_S8x16x32 rfl
  have v27 := select (ori (cmpi .eq v18 (broadcast S8x16x32 0#32)) (cmpi .sgt v18 (broadcast S8x16x32 246#32))) (broadcast S8x16x32 0#32) (subi v18 (broadcast S8x16x32 126#32))
  select (cmpf .oeq v6 (broadcast S8x16x32 (Scalar.ofBits .f32 0x00000000#32 : Ideal .f32))) (broadcast S8x16x32 0#32) v27

def exp8 (v6 : FVec Ideal S8x16x8 .f32) : IVec S8x16x8 32 :=
  have v8 := mulf v6 (broadcast S8x16x8 (Scalar.ofBits .f32 0x3B124925#32 : Ideal .f32))
  have v13 : FVec Ideal S8x16x8x254 .f32 := exp2 (sitofp .f32 (subi (iota .tc S8x16x8x254 32 [3] iota_S8x16x8x254_d3_w32) (broadcast S8x16x8x254 126#32)))
  have v15 : FVec Ideal S8x16x8x254 .f32 := broadcastTo S8x16x8x254 (shapeCast S8x16x8x1 v8 shapeCasts_S8x16x8_S8x16x8x1) broadcasts_S8x16x8x1_S8x16x8x254
  have v18 : IVec S8x16x8 32 := multiReductionI .add [3] S8x16x8 (extui 32 (cmpf .oge v15 v13) natLt_1_32) 0#32 reduces_S8x16x8x254_S8x16x8 rfl
  have v27 := select (ori (cmpi .eq v18 (broadcast S8x16x8 0#32)) (cmpi .sgt v18 (broadcast S8x16x8 246#32))) (broadcast S8x16x8 0#32) (subi v18 (broadcast S8x16x8 126#32))
  select (cmpf .oeq v6 (broadcast S8x16x8 (Scalar.ofBits .f32 0x00000000#32 : Ideal .f32))) (broadcast S8x16x8 0#32) v27

theorem exp32_at (v : FVec Ideal S8x16x32 .f32) (b : Fin 8) (n : Fin 16) (h : Fin 32) :
    exp32 v (ix3 b n h) = expo (v (ix3 b n h)) (cntR (v (ix3 b n h) * Ideal.ofBits .f32 991054117#32)) := by
  pointwise [exp32]
  rfl
theorem exp8_at (v : FVec Ideal S8x16x8 .f32) (b : Fin 8) (n : Fin 16) (h : Fin 8) :
    exp8 v (ix3 b n h) = expo (v (ix3 b n h)) (cntR (v (ix3 b n h) * Ideal.ofBits .f32 991054117#32)) := by
  pointwise [exp8]
  rfl

def max32 (x : Vec Ideal S8x2048x4096 .bf16) : FVec Ideal S8x16x32 .f32 :=
  multiReduction .maximumf [2, 4] S8x16x32 (absf (k0_pay2 x)) 0xFF800000#32 reduces_S8x16x128x32x128_S8x16x32 (.inl rfl) rfl
def max8 (x : Vec Ideal S8x2048x1024 .bf16) : FVec Ideal S8x16x8 .f32 :=
  multiReduction .maximumf [2, 4] S8x16x8 (absf (k0_pay7 x)) 0xFF800000#32 reduces_S8x16x128x8x128_S8x16x8 (.inl rfl) rfl

theorem pay3_eq (x : Vec Ideal S8x2048x4096 .bf16) : k0_pay3 x = exp32 (max32 x) := rfl
theorem pay8_eq (x : Vec Ideal S8x2048x1024 .bf16) : k0_pay8 x = exp8 (max8 x) := rfl
theorem pay13_eq (x : Vec Ideal S8x2048x1024 .bf16) : k0_pay13 x = exp8 (max8 x) := rfl

theorem pay2_at (x : Vec Ideal S8x2048x4096 .bf16) (b : Fin 8) (n : Fin 16) (r : Fin 128) (h : Fin 32) (l : Fin 128) :
    k0_pay2 x (ix5 b n r h l) = tq x b n h r l := by
  pointwise [k0_pay2]
  rfl
theorem pay7_at (x : Vec Ideal S8x2048x1024 .bf16) (b : Fin 8) (n : Fin 16) (r : Fin 128) (h : Fin 8) (l : Fin 128) :
    k0_pay7 x (ix5 b n r h l) = tk x b n h r l := by
  pointwise [k0_pay7]
  rfl

theorem max32_at (x : Vec Ideal S8x2048x4096 .bf16) (b : Fin 8) (n : Fin 16) (h : Fin 32) : max32 x (ix3 b n h) = tmx (tq x b n h) := by
  refine (multiReduction_maximumf_eq_fold (absf (k0_pay2 x)) 0xFF800000#32 reduces_S8x16x128x32x128_S8x16x32 (.inl rfl) rfl (ix3 b n h)).trans ?_
  refine fold_max_eq _ _ _ _ _ (fun i hi => ?_) (fun p _ => ?_)
  · have hd := (Finset.mem_filter.mp hi).2
    refine ⟨(i 2, i 4), Finset.mem_univ _, ?_⟩
    have e : i = ix5 b n (i 2) h (i 4) := by
      funext a
      match a with
      | ⟨0, _⟩ => exact Fin.ext (congrArg (fun f : S8x16x32.Idx => (f 0).val) hd)
      | ⟨1, _⟩ => exact Fin.ext (congrArg (fun f : S8x16x32.Idx => (f 1).val) hd)
      | ⟨2, _⟩ => rfl
      | ⟨3, _⟩ => exact Fin.ext (congrArg (fun f : S8x16x32.Idx => (f 2).val) hd)
      | ⟨4, _⟩ => rfl
    show max (k0_pay2 x i) (-k0_pay2 x i) = max (tq x b n h (i 2) (i 4)) (-tq x b n h (i 2) (i 4))
    have e2 : k0_pay2 x i = tq x b n h (i 2) (i 4) := (congrArg (k0_pay2 x) e).trans (pay2_at x b n (i 2) h (i 4))
    rw [e2]
  · refine ⟨ix5 b n p.1 h p.2, Finset.mem_filter.mpr ⟨Finset.mem_univ _, ?_⟩, ?_⟩
    · funext a
      match a with
      | ⟨0, _⟩ => exact Fin.ext rfl
      | ⟨1, _⟩ => exact Fin.ext rfl
      | ⟨2, _⟩ => exact Fin.ext rfl
    · show max (tq x b n h p.1 p.2) (-tq x b n h p.1 p.2) = max (k0_pay2 x (ix5 b n p.1 h p.2)) (-k0_pay2 x (ix5 b n p.1 h p.2))
      rw [pay2_at]

theorem max8_at (x : Vec Ideal S8x2048x1024 .bf16) (b : Fin 8) (n : Fin 16) (h : Fin 8) : max8 x (ix3 b n h) = tmx (tk x b n h) := by
  refine (multiReduction_maximumf_eq_fold (absf (k0_pay7 x)) 0xFF800000#32 reduces_S8x16x128x8x128_S8x16x8 (.inl rfl) rfl (ix3 b n h)).trans ?_
  refine fold_max_eq _ _ _ _ _ (fun i hi => ?_) (fun p _ => ?_)
  · have hd := (Finset.mem_filter.mp hi).2
    refine ⟨(i 2, i 4), Finset.mem_univ _, ?_⟩
    have e : i = ix5 b n (i 2) h (i 4) := by
      funext a
      match a with
      | ⟨0, _⟩ => exact Fin.ext (congrArg (fun f : S8x16x8.Idx => (f 0).val) hd)
      | ⟨1, _⟩ => exact Fin.ext (congrArg (fun f : S8x16x8.Idx => (f 1).val) hd)
      | ⟨2, _⟩ => rfl
      | ⟨3, _⟩ => exact Fin.ext (congrArg (fun f : S8x16x8.Idx => (f 2).val) hd)
      | ⟨4, _⟩ => rfl
    show max (k0_pay7 x i) (-k0_pay7 x i) = max (tk x b n h (i 2) (i 4)) (-tk x b n h (i 2) (i 4))
    have e2 : k0_pay7 x i = tk x b n h (i 2) (i 4) := (congrArg (k0_pay7 x) e).trans (pay7_at x b n (i 2) h (i 4))
    rw [e2]
  · refine ⟨ix5 b n p.1 h p.2, Finset.mem_filter.mpr ⟨Finset.mem_univ _, ?_⟩, ?_⟩
    · funext a
      match a with
      | ⟨0, _⟩ => exact Fin.ext rfl
      | ⟨1, _⟩ => exact Fin.ext rfl
      | ⟨2, _⟩ => exact Fin.ext rfl
    · show max (tk x b n h p.1 p.2) (-tk x b n h p.1 p.2) = max (k0_pay7 x (ix5 b n p.1 h p.2)) (-k0_pay7 x (ix5 b n p.1 h p.2))
      rw [pay7_at]

theorem ex32_at (x : Vec Ideal S8x2048x4096 .bf16) (b : Fin 8) (n : Fin 16) (h : Fin 32) : k0_pay3 x (ix3 b n h) = ex (tq x b n h) := by
  rw [pay3_eq, exp32_at, max32_at]; rfl
theorem ex8_at (x : Vec Ideal S8x2048x1024 .bf16) (b : Fin 8) (n : Fin 16) (h : Fin 8) : k0_pay8 x (ix3 b n h) = ex (tk x b n h) := by
  rw [pay8_eq, exp8_at, max8_at]; rfl
theorem ex8_at' (x : Vec Ideal S8x2048x1024 .bf16) (b : Fin 8) (n : Fin 16) (h : Fin 8) : k0_pay13 x (ix3 b n h) = ex (tk x b n h) := by
  rw [pay13_eq, exp8_at, max8_at]; rfl

theorem pay4_at (x : Vec Ideal S8x2048x4096 .bf16) (b : Fin 8) (n : Fin 16) (h : Fin 32) : k0_pay4 x (ix3 b n h) = scE (tq x b n h) := by
  pointwise [k0_pay4]
  rw [ex32_at, scale_R]
theorem pay9_at (x : Vec Ideal S8x2048x1024 .bf16) (b : Fin 8) (n : Fin 16) (h : Fin 8) : k0_pay9 x (ix3 b n h) = scE (tk x b n h) := by
  pointwise [k0_pay9]
  rw [ex8_at, scale_R]
theorem pay14_at (x : Vec Ideal S8x2048x1024 .bf16) (b : Fin 8) (n : Fin 16) (h : Fin 8) : k0_pay14 x (ix3 b n h) = scE (tk x b n h) := by
  pointwise [k0_pay14]
  rw [ex8_at', scale_R]

theorem pay18_at (v : FVec Ideal S8x16x32 .f32) (b : Fin 8) (n : Fin 16) (z : Fin 1) (h : Fin 32) : k0_pay18 v (ix4 b n z h) = v (ix3 b n h) := by
  pointwise [k0_pay18]
theorem pay19_at (v : FVec Ideal S8x16x8 .f32) (b : Fin 8) (n : Fin 16) (z : Fin 1) (h : Fin 8) : k0_pay19 v (ix4 b n z h) = v (ix3 b n h) := by
  pointwise [k0_pay19]
theorem pay20_at (v : FVec Ideal S8x16x8 .f32) (b : Fin 8) (n : Fin 16) (z : Fin 1) (h : Fin 8) : k0_pay20 v (ix4 b n z h) = v (ix3 b n h) := by
  pointwise [k0_pay20]

/-- The codes of the whole array, by row and column. -/
theorem pay6_at (x : Vec Ideal S8x2048x4096 .bf16) (b : Fin 8) (n : Fin 2048) (h : Fin 4096) :
    k0_pay6 (k0_pay2 x) (k0_pay5 x) (ix3 b n h) = cd (tq x b ⟨n.val / 128, by omega⟩ ⟨h.val / 128, by omega⟩) ⟨n.val % 128, by omega⟩ ⟨h.val % 128, by omega⟩ := by
  pointwise [k0_pay6, k0_pay5]
  rw [ex32_at, inv_R, pay2_at]
  rfl
theorem pay11_at (x : Vec Ideal S8x2048x1024 .bf16) (b : Fin 8) (n : Fin 2048) (h : Fin 1024) :
    k0_pay11 (k0_pay10 x) (Scalar.ofBits .f32 0xC3E00000#32) (Scalar.ofBits .f32 0x43E00000#32) (ix3 b n h)
      = cd (tk x b ⟨n.val / 128, by omega⟩ ⟨h.val / 128, by omega⟩) ⟨n.val % 128, by omega⟩ ⟨h.val % 128, by omega⟩ := by
  pointwise [k0_pay11, k0_pay10]
  rw [ex8_at, inv_R, pay7_at]
  rfl
theorem pay17_at (x : Vec Ideal S8x2048x1024 .bf16) (b : Fin 8) (n : Fin 2048) (h : Fin 1024) :
    k0_pay17 (k0_pay15 x) k0_pay16 (ix3 b n h)
      = cd (tk x b ⟨n.val / 128, by omega⟩ ⟨h.val / 128, by omega⟩) ⟨n.val % 128, by omega⟩ ⟨h.val % 128, by omega⟩ := by
  pointwise [k0_pay17, k0_pay15, k0_pay16]
  rw [ex8_at', inv_R]
  show min _ (max _ (k0_pay7 x _ * _)) = _
  rw [pay7_at]
  rfl

end Cert.ReferenceIdeal.Math
end
-- ==== Proof.Math.Results.lean ====
module

public import proofs.«01_k».proof.Proof.Strong.Run
public import proofs.«01_k».proof.Proof.RefRun
public import proofs.«01_k».proof.Proof.Math.KerQ
public import proofs.«01_k».proof.Proof.Math.RefQ

@[expose] public section

set_option maxRecDepth 16384

noncomputable section

namespace Cert.Math

open Idealize.ShloMosaic Idealize.ShloMosaic.TcCoe
open Cert.KernelIdeal (S1x128x4096 S1x128x1024 S1x1x1x32 S1x1x1x8 S1x128x128 nD τ sig cfg0 grid0)
open Cert.KernelIdeal.Gen (iblk)
open Cert.KernelIdeal.Strong (ten scl tcl code code3 code4 codeT4 row512 cqr scales8 scales32 xt ut asm32 asm8)
open Cert.KernelIdeal.Math Cert.ReferenceIdeal.Math
open Cert.ReferenceIdeal (S8x2048x4096 S8x2048x1024)

/-- A load through the whole of an array is the array. -/
theorem ld_whole (x : Vec Ideal S8x2048x4096 .bf16) : View.ld x Cert.ReferenceIdeal.Gen.r0_0 = x := by
  funext j
  show x _ = x j
  refine congrArg x (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
theorem ld_whole' (x : Vec Ideal S8x2048x1024 .bf16) : View.ld x Cert.ReferenceIdeal.Gen.r0_1 = x := by
  funext j
  show x _ = x j
  refine congrArg x (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

theorem ix3_strong (a b : Fin 128) : Cert.KernelIdeal.Strong.ix3 a b = ix3 0 a b := by
  funext x; match x with
  | ⟨0, _⟩ => rfl
  | ⟨1, _⟩ => rfl
  | ⟨2, _⟩ => rfl

variable (m : (ℓ : Loc nD τ sig) → Buf (Elt Ideal) ℓ) (c : Dev nD)

/-- The argument arrays. -/
def aQ : Vec Ideal S8x2048x4096 .bf16 := m ((c.tc : Thread nD τ).loc Cert.KernelIdeal.main_arg0)
def aK : Vec Ideal S8x2048x1024 .bf16 := m ((c.tc : Thread nD τ).loc Cert.KernelIdeal.main_arg1)
def aV : Vec Ideal S8x2048x1024 .bf16 := m ((c.tc : Thread nD τ).loc Cert.KernelIdeal.main_arg2)

def tB (t : Fin cfg0.N) : Fin 8 := ⟨t.val / 16, by have h : t.val < 128 := t.2; omega⟩
def tN (t : Fin cfg0.N) : Fin 16 := ⟨t.val % 16, by omega⟩

theorem tile_q (t : Fin cfg0.N) (h : Fin 32) : tl (xt (iblk m c 0 t) h) = tq (aQ m c) (tB t) (tN t) h := by
  funext r l
  show aQ m c _ = aQ m c _
  refine congrArg (aQ m c) (funext fun a => Fin.ext ?_)
  refine (Cert.KernelIdeal.Strong.emb0 t _ a).trans ?_
  match a with
  | ⟨0, _⟩ => rfl
  | ⟨1, _⟩ => show 128 * (t.val % 16) + (0 + 1 * r.val) = t.val % 16 * 128 + r.val; omega
  | ⟨2, _⟩ => show 128 * h.val + 1 * l.val = h.val * 128 + l.val; omega
theorem tile_k (t : Fin cfg0.N) (h : Fin 8) : tl (ut (iblk m c 1 t) h) = tk (aK m c) (tB t) (tN t) h := by
  funext r l
  show aK m c _ = aK m c _
  refine congrArg (aK m c) (funext fun a => Fin.ext ?_)
  refine (Cert.KernelIdeal.Strong.emb1 t _ a).trans ?_
  match a with
  | ⟨0, _⟩ => rfl
  | ⟨1, _⟩ => show 128 * (t.val % 16) + (0 + 1 * r.val) = t.val % 16 * 128 + r.val; omega
  | ⟨2, _⟩ => show 128 * h.val + 1 * l.val = h.val * 128 + l.val; omega
theorem tile_v (t : Fin cfg0.N) (h : Fin 8) : tl (ut (iblk m c 2 t) h) = tk (aV m c) (tB t) (tN t) h := by
  funext r l
  show aV m c _ = aV m c _
  refine congrArg (aV m c) (funext fun a => Fin.ext ?_)
  refine (Cert.KernelIdeal.Strong.emb2 t _ a).trans ?_
  match a with
  | ⟨0, _⟩ => rfl
  | ⟨1, _⟩ => show 128 * (t.val % 16) + (0 + 1 * r.val) = t.val % 16 * 128 + r.val; omega
  | ⟨2, _⟩ => show 128 * h.val + 1 * l.val = h.val * 128 + l.val; omega

/-- An entry of a block's row of tiles of codes, and the same entry of the whole array's. -/
theorem asm32_at (P : Fin 32 → Vec Ideal S1x128x128 .bf16) (z : Fin 1) (r : Fin 128) (l : Fin 4096) :
    (asm32 fun h => code3 (P h) : Vec Ideal S1x128x4096 .fp8e4m3) (ix3 z r l) = cd (tl (P ⟨l.val / 128, by omega⟩)) r ⟨l.val % 128, by omega⟩ := by
  show code3 _ (Cert.KernelIdeal.Strong.ix3 r _) = _
  rw [ix3_strong, code3_at]
  rfl
theorem asm8_at (P : Fin 8 → Vec Ideal S1x128x128 .bf16) (z : Fin 1) (r : Fin 128) (l : Fin 1024) :
    (asm8 fun h => code3 (P h) : Vec Ideal S1x128x1024 .fp8e4m3) (ix3 z r l) = cd (tl (P ⟨l.val / 128, by omega⟩)) r ⟨l.val % 128, by omega⟩ := by
  show code3 _ (Cert.KernelIdeal.Strong.ix3 r _) = _
  rw [ix3_strong, code3_at]
  rfl

/-- The row of the whole array a block's row is. -/
def gRow (t : Fin cfg0.N) (r : Fin 128) : Fin 2048 := ⟨128 * (t.val % 16) + r.val, by omega⟩
theorem gRow_div (t : Fin cfg0.N) (r : Fin 128) : (⟨(gRow t r).val / 128, by omega⟩ : Fin 16) = tN t :=
  Fin.ext (by show (128 * (t.val % 16) + r.val) / 128 = t.val % 16; omega)
theorem gRow_mod (t : Fin cfg0.N) (r : Fin 128) : (⟨(gRow t r).val % 128, by omega⟩ : Fin 128) = r :=
  Fin.ext (by show (128 * (t.val % 16) + r.val) % 128 = r.val; omega)

theorem res4 : (Cert.KernelIdeal.Strong.dats m 0 c).arrAt 4 cfg0.N = Cert.ReferenceIdeal.RefRun.G4 (aQ m c) (aK m c) (aV m c) := by
  refine Cert.KernelIdeal.Strong.final4 m c _ fun t j => ?_
  have e : ((cfg0.win 4).blk t).view.emb j = ix3 (tB t) (gRow t (j 1)) (j 2) := funext fun a =>
    Fin.ext ((Cert.KernelIdeal.Strong.emb4 t j a).trans (by match a with | ⟨0, _⟩ => rfl | ⟨1, _⟩ => rfl | ⟨2, _⟩ => rfl))
  rw [e]
  have ej : j = ix3 (j 0) (j 1) (j 2) := eq_ix3 j
  show _ = Cert.ReferenceIdeal.Gen.k0_pay6 (Cert.ReferenceIdeal.Gen.k0_pay2 (View.ld (aQ m c) Cert.ReferenceIdeal.Gen.r0_0)) (Cert.ReferenceIdeal.Gen.k0_pay5 (View.ld (aQ m c) Cert.ReferenceIdeal.Gen.r0_0)) _
  rw [ld_whole]
  refine (congrArg (asm32 fun h => code3 (xt (iblk m c 0 t) h) : Vec Ideal S1x128x4096 .fp8e4m3) ej).trans ?_
  refine (asm32_at _ _ _ _).trans ?_
  refine Eq.trans ?_ (pay6_at _ _ _ _).symm
  have key : ∀ (r : Fin 128) (l : Fin 4096), cd (tl (xt (iblk m c 0 t) ⟨l.val / 128, by omega⟩)) r ⟨l.val % 128, by omega⟩
      = cd (tq (aQ m c) (tB t) ⟨(gRow t r).val / 128, by omega⟩ ⟨l.val / 128, by omega⟩) ⟨(gRow t r).val % 128, by omega⟩ ⟨l.val % 128, by omega⟩ := by
    intro r l; rw [gRow_div, gRow_mod, tile_q]
  exact key (j 1) (j 2)

theorem res6 : (Cert.KernelIdeal.Strong.dats m 0 c).arrAt 6 cfg0.N = Cert.ReferenceIdeal.RefRun.G6 (aQ m c) (aK m c) (aV m c) := by
  refine Cert.KernelIdeal.Strong.final6 m c _ fun t j => ?_
  have e : ((cfg0.win 6).blk t).view.emb j = ix3 (tB t) (gRow t (j 1)) (j 2) := funext fun a =>
    Fin.ext ((Cert.KernelIdeal.Strong.emb6 t j a).trans (by match a with | ⟨0, _⟩ => rfl | ⟨1, _⟩ => rfl | ⟨2, _⟩ => rfl))
  rw [e]
  have ej : j = ix3 (j 0) (j 1) (j 2) := eq_ix3 j
  show _ = Cert.ReferenceIdeal.Gen.k0_pay11 (Cert.ReferenceIdeal.Gen.k0_pay10 (View.ld (aK m c) Cert.ReferenceIdeal.Gen.r0_1)) (Scalar.ofBits .f32 0xC3E00000#32) (Scalar.ofBits .f32 0x43E00000#32) _
  rw [ld_whole']
  refine (congrArg (asm8 fun h => code3 (ut (iblk m c 1 t) h) : Vec Ideal S1x128x1024 .fp8e4m3) ej).trans ?_
  refine (asm8_at _ _ _ _).trans ?_
  refine Eq.trans ?_ (pay11_at _ _ _ _).symm
  have key : ∀ (r : Fin 128) (l : Fin 1024), cd (tl (ut (iblk m c 1 t) ⟨l.val / 128, by omega⟩)) r ⟨l.val % 128, by omega⟩
      = cd (tk (aK m c) (tB t) ⟨(gRow t r).val / 128, by omega⟩ ⟨l.val / 128, by omega⟩) ⟨(gRow t r).val % 128, by omega⟩ ⟨l.val % 128, by omega⟩ := by
    intro r l; rw [gRow_div, gRow_mod, tile_k]
  exact key (j 1) (j 2)

theorem res8 : (Cert.KernelIdeal.Strong.dats m 0 c).arrAt 8 cfg0.N = Cert.ReferenceIdeal.RefRun.G8 (aQ m c) (aK m c) (aV m c) := by
  refine Cert.KernelIdeal.Strong.final8 m c _ fun t j => ?_
  have e : ((cfg0.win 8).blk t).view.emb j = ix3 (tB t) (gRow t (j 1)) (j 2) := funext fun a =>
    Fin.ext ((Cert.KernelIdeal.Strong.emb8 t j a).trans (by match a with | ⟨0, _⟩ => rfl | ⟨1, _⟩ => rfl | ⟨2, _⟩ => rfl))
  rw [e]
  have ej : j = ix3 (j 0) (j 1) (j 2) := eq_ix3 j
  show _ = Cert.ReferenceIdeal.Gen.k0_pay17 (Cert.ReferenceIdeal.Gen.k0_pay15 (View.ld (aV m c) Cert.ReferenceIdeal.Gen.r0_1)) Cert.ReferenceIdeal.Gen.k0_pay16 _
  rw [ld_whole']
  refine (congrArg (asm8 fun h => code3 (ut (iblk m c 2 t) h) : Vec Ideal S1x128x1024 .fp8e4m3) ej).trans ?_
  refine (asm8_at _ _ _ _).trans ?_
  refine Eq.trans ?_ (pay17_at _ _ _ _).symm
  have key : ∀ (r : Fin 128) (l : Fin 1024), cd (tl (ut (iblk m c 2 t) ⟨l.val / 128, by omega⟩)) r ⟨l.val % 128, by omega⟩
      = cd (tk (aV m c) (tB t) ⟨(gRow t r).val / 128, by omega⟩ ⟨l.val / 128, by omega⟩) ⟨(gRow t r).val % 128, by omega⟩ ⟨l.val % 128, by omega⟩ := by
    intro r l; rw [gRow_div, gRow_mod, tile_v]
  exact key (j 1) (j 2)

theorem res5 : (Cert.KernelIdeal.Strong.dats m 0 c).arrAt 5 cfg0.N = Cert.ReferenceIdeal.RefRun.G5 (aQ m c) (aK m c) (aV m c) := by
  refine Cert.KernelIdeal.Strong.final5 m c _ fun t j => ?_
  have e : ((cfg0.win 5).blk t).view.emb j = ix4 (tB t) (tN t) (0 : Fin 1) (j 3) := funext fun a =>
    Fin.ext ((Cert.KernelIdeal.Strong.emb5 t j a).trans (by match a with | ⟨0, _⟩ => rfl | ⟨1, _⟩ => rfl | ⟨2, _⟩ => rfl | ⟨3, _⟩ => rfl))
  rw [e]
  have ej : j = ix4 (j 0) (j 1) (j 2) (j 3) := eq_ix4 j
  show _ = Cert.ReferenceIdeal.Gen.k0_pay18 (Cert.ReferenceIdeal.Gen.k0_pay4 (View.ld (aQ m c) Cert.ReferenceIdeal.Gen.r0_0)) _
  rw [ld_whole]
  refine (congrArg (scales32 (iblk m c 0 t)) ej).trans ?_
  refine (scales32_at _ _ _ _ _).trans ?_
  refine Eq.trans ?_ (pay18_at _ _ _ _ _).symm
  refine Eq.trans ?_ (pay4_at _ _ _ _).symm
  exact congrArg scE (tile_q m c t (j 3))
theorem res7 : (Cert.KernelIdeal.Strong.dats m 0 c).arrAt 7 cfg0.N = Cert.ReferenceIdeal.RefRun.G7 (aQ m c) (aK m c) (aV m c) := by
  refine Cert.KernelIdeal.Strong.final7 m c _ fun t j => ?_
  have e : ((cfg0.win 7).blk t).view.emb j = ix4 (tB t) (tN t) (0 : Fin 1) (j 3) := funext fun a =>
    Fin.ext ((Cert.KernelIdeal.Strong.emb7 t j a).trans (by match a with | ⟨0, _⟩ => rfl | ⟨1, _⟩ => rfl | ⟨2, _⟩ => rfl | ⟨3, _⟩ => rfl))
  rw [e]
  have ej : j = ix4 (j 0) (j 1) (j 2) (j 3) := eq_ix4 j
  show _ = Cert.ReferenceIdeal.Gen.k0_pay19 (Cert.ReferenceIdeal.Gen.k0_pay9 (View.ld (aK m c) Cert.ReferenceIdeal.Gen.r0_1)) _
  rw [ld_whole']
  refine (congrArg (scales8 (iblk m c 1 t)) ej).trans ?_
  refine (scales8_at _ _ _ _ _).trans ?_
  refine Eq.trans ?_ (pay19_at _ _ _ _ _).symm
  refine Eq.trans ?_ (pay9_at _ _ _ _).symm
  exact congrArg scE (tile_k m c t (j 3))
theorem res9 : (Cert.KernelIdeal.Strong.dats m 0 c).arrAt 9 cfg0.N = Cert.ReferenceIdeal.RefRun.G9 (aQ m c) (aK m c) (aV m c) := by
  refine Cert.KernelIdeal.Strong.final9 m c _ fun t j => ?_
  have e : ((cfg0.win 9).blk t).view.emb j = ix4 (tB t) (tN t) (0 : Fin 1) (j 3) := funext fun a =>
    Fin.ext ((Cert.KernelIdeal.Strong.emb9 t j a).trans (by match a with | ⟨0, _⟩ => rfl | ⟨1, _⟩ => rfl | ⟨2, _⟩ => rfl | ⟨3, _⟩ => rfl))
  rw [e]
  have ej : j = ix4 (j 0) (j 1) (j 2) (j 3) := eq_ix4 j
  show _ = Cert.ReferenceIdeal.Gen.k0_pay20 (Cert.ReferenceIdeal.Gen.k0_pay14 (View.ld (aV m c) Cert.ReferenceIdeal.Gen.r0_1)) _
  rw [ld_whole']
  refine (congrArg (scales8 (iblk m c 2 t)) ej).trans ?_
  refine (scales8_at _ _ _ _ _).trans ?_
  refine Eq.trans ?_ (pay20_at _ _ _ _ _).symm
  refine Eq.trans ?_ (pay14_at _ _ _ _).symm
  exact congrArg scE (tile_v m c t (j 3))

end Cert.Math
end
-- ==== Proof.Math.Row.lean ====
module

public import proofs.«01_k».proof.Proof.Math.Spec
public import Mathlib.Analysis.SpecialFunctions.Pow.Real

@[expose] public section

set_option maxRecDepth 16384

noncomputable section

namespace Cert.Math

open Idealize.ShloMosaic

theorem tanh_mono {x y : ℝ} (h : x ≤ y) : Real.tanh x ≤ Real.tanh y := by
  rw [Real.tanh_eq_sinh_div_cosh, Real.tanh_eq_sinh_div_cosh, div_le_div_iff₀ (Real.cosh_pos x) (Real.cosh_pos y)]
  have h1 : 0 ≤ Real.sinh (y - x) := Real.sinh_nonneg_iff.mpr (by linarith)
  rw [Real.sinh_sub] at h1
  linarith

theorem ofBits_50 : Ideal.ofBits .f32 1112014848#32 = ((50 : ℝ) : EReal) := by
  have b1 : ((1112014848#32).extractLsb' 31 1 == 1#1) = false := by decide
  have b2 : ((1112014848#32).extractLsb' 23 8).toNat = 132 := by decide
  have b3 : ((1112014848#32).extractLsb' 0 23).toNat = 4718592 := by decide
  have e : Ideal.ofBits .f32 1112014848#32 = Ideal.ieee 8 23 1112014848#32 := rfl
  rw [e]
  unfold Ideal.ieee
  simp only [Nat.reduceAdd, b1, b2, b3]
  norm_num
theorem ofBits_448 : Ideal.ofBits .f32 1138753536#32 = ((448 : ℝ) : EReal) := by
  have b1 : ((1138753536#32).extractLsb' 31 1 == 1#1) = false := by decide
  have b2 : ((1138753536#32).extractLsb' 23 8).toNat = 135 := by decide
  have b3 : ((1138753536#32).extractLsb' 0 23).toNat = 6291456 := by decide
  have e : Ideal.ofBits .f32 1138753536#32 = Ideal.ieee 8 23 1138753536#32 := rfl
  rw [e]
  unfold Ideal.ieee
  simp only [Nat.reduceAdd, b1, b2, b3]
  norm_num
theorem ofBits_n448 : Ideal.ofBits .f32 3286237184#32 = ((-448 : ℝ) : EReal) := by
  have b1 : ((3286237184#32).extractLsb' 31 1 == 1#1) = true := by decide
  have b2 : ((3286237184#32).extractLsb' 23 8).toNat = 135 := by decide
  have b3 : ((3286237184#32).extractLsb' 0 23).toNat = 6291456 := by decide
  have e : Ideal.ofBits .f32 3286237184#32 = Ideal.ieee 8 23 3286237184#32 := rfl
  rw [e]
  unfold Ideal.ieee
  simp only [Nat.reduceAdd, b1, b2, b3]
  norm_num

theorem clip_zero : min (Ideal.ofBits .f32 1138753536#32) (max (Ideal.ofBits .f32 3286237184#32) (0 : EReal)) = 0 := by
  rw [ofBits_448, ofBits_n448]
  have h1 : ((-448 : ℝ) : EReal) ≤ 0 := by exact_mod_cast (by norm_num : (-448 : ℝ) ≤ 0)
  have h2 : (0 : EReal) ≤ ((448 : ℝ) : EReal) := by exact_mod_cast (by norm_num : (0 : ℝ) ≤ 448)
  rw [max_eq_right h1, min_eq_right h2]

/-- A code is a number. -/
theorem cd_real (T : Fin 128 → Fin 128 → EReal) (a b : Fin 128) : ∃ r : ℝ, cd T a b = (r : EReal) := by
  unfold cd
  rw [ofBits_448, ofBits_n448]
  generalize T a b * (((scR T)⁻¹ : ℝ) : EReal) = x
  refine ⟨(min ((448 : ℝ) : EReal) (max ((-448 : ℝ) : EReal) x)).toReal, (EReal.coe_toReal ?_ ?_).symm⟩
  · exact ne_of_lt (lt_of_le_of_lt (min_le_left _ _) (EReal.coe_lt_top _))
  · refine ne_of_gt (lt_min (EReal.bot_lt_coe _) (lt_of_lt_of_le (EReal.bot_lt_coe _) (le_max_left _ _)))

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A product of codes summed is a number. -/
theorem dot_real (T U : Fin 128 → Fin 128 → EReal) (a b : Fin 128) : ∃ r : ℝ, (∑ x, cd T a x * cd U b x) = (r : EReal) := by
  choose f hf using cd_real T
  choose g hg using cd_real U
  refine ⟨∑ x, f a x * g b x, ?_⟩
  rw [coe_sum]
  refine Finset.sum_congr rfl fun x _ => ?_
  rw [hf, hg, EReal.coe_mul]

/-- A comparison of two small numbers chooses. -/
theorem sel_le {α : Type} (n q : ℕ) (hn : n < 2048) (hq : q < 2048) (a b : α) :
    Scalar.select (IntOp.cmpi CmpIPredicate.sle (BitVec.ofNat 32 n) (BitVec.ofNat 32 q)) a b = if n ≤ q then a else b := by
  have h : (BitVec.ofNat 32 n).sle (BitVec.ofNat 32 q) = decide (n ≤ q) := by
    rw [BitVec.sle_eq_decide]
    have e1 : (BitVec.ofNat 32 n).toInt = n := by
      rw [BitVec.toInt_eq_toNat_of_lt (by rw [BitVec.toNat_ofNat, Nat.mod_eq_of_lt (by omega)]; omega), BitVec.toNat_ofNat, Nat.mod_eq_of_lt (by omega)]
    have e2 : (BitVec.ofNat 32 q).toInt = q := by
      rw [BitVec.toInt_eq_toNat_of_lt (by rw [BitVec.toNat_ofNat, Nat.mod_eq_of_lt (by omega)]; omega), BitVec.toNat_ofNat, Nat.mod_eq_of_lt (by omega)]
    rw [e1, e2]
    exact decide_eq_decide.mpr (by omega)
  show (if BitVec.ofBool ((BitVec.ofNat 32 n).sle (BitVec.ofNat 32 q)) = 1 then a else b) = _
  rw [h]
  by_cases hc : n ≤ q
  · simp [hc]
  · simp [hc]

/-- Entry `x` of block `b`. -/
def at128 (b : Fin 16) (x : Fin 128) : Fin 2048 := ⟨b.val * 128 + x.val, by omega⟩

theorem sum_2048 (f : Fin 2048 → EReal) : ∑ n, f n = ∑ b : Fin 16, ∑ x : Fin 128, f (at128 b x) := by
  rw [← Fintype.sum_prod_type']
  refine (Equiv.sum_comp (finProdFinEquiv (m := 16) (n := 128)) f).symm.trans ?_
  refine Finset.sum_congr rfl fun p _ => congrArg f (Fin.ext ?_)
  show p.2.val + 128 * p.1.val = p.1.val * 128 + p.2.val
  omega

theorem sum_128 (f : Fin 128 → EReal) : ∑ s : Fin 8, ∑ x : Fin 16, f ⟨x.val * 8 + s.val, by omega⟩ = ∑ n, f n := by
  rw [Finset.sum_comm, ← Fintype.sum_prod_type']
  refine Eq.trans ?_ (Equiv.sum_comp (finProdFinEquiv (m := 16) (n := 8)) f)
  refine Finset.sum_congr rfl fun p _ => congrArg f (Fin.ext ?_)
  show p.1.val * 8 + p.2.val = p.2.val + 8 * p.1.val
  omega

/-- A sum over the blocks before block `i`, and block `i`'s term, when later blocks contribute nothing. -/
theorem sum_blocks (F : Fin 16 → EReal) (i : Fin 16) (h : ∀ b, i < b → F b = 0) :
    ∑ k ∈ Finset.range i.val, F (Fin.ofNat 16 k) + F i = ∑ b, F b := by
  have e : F i = F (Fin.ofNat 16 i.val) := congrArg F (Fin.ext (by show i.val = i.val % 16; omega))
  rw [e, ← Finset.sum_range_succ (fun k => F (Fin.ofNat 16 k))]
  have e2 : ∑ b, F b = ∑ b : Fin 16, F (Fin.ofNat 16 b.val) :=
    Finset.sum_congr rfl fun b _ => congrArg F (Fin.ext (by show b.val = b.val % 16; omega))
  rw [e2, ← Finset.sum_range (fun k => F (Fin.ofNat 16 k))]
  refine Finset.sum_subset (fun k hk => Finset.mem_range.mpr (by have := Finset.mem_range.mp hk; omega)) fun k hk hk' => h _ ?_
  have h1 := Finset.mem_range.mp hk
  have h2 : ¬ k < i.val + 1 := fun h => hk' (Finset.mem_range.mpr h)
  show i.val < k % 16
  omega

/-- A maximum scaled by a positive number. -/
theorem fold_max_mul {ι : Type} (s : Finset ι) (f : ι → EReal) (K : ℝ) (hK : 0 < K) :
    Finset.fold max (⊥ : EReal) f s * (K : EReal) = Finset.fold max ⊥ (fun x => f x * (K : EReal)) s := by
  have hm : ∀ x y : EReal, max x y * (K : EReal) = max (x * K) (y * K) := fun x y =>
    (show Monotone fun z : EReal => z * (K : EReal) from fun a b hab => mul_le_mul_of_nonneg_right hab (by exact_mod_cast hK.le)).map_max
  have := Finset.fold_hom (op := max) (op' := max) (b := (⊥ : EReal)) (f := f) (s := s) (m := fun z : EReal => z * (K : EReal)) hm
  rw [← this, EReal.bot_mul_coe_of_pos hK]

section Row
variable (th : Fin 2048 → ℝ) (p : Fin 2048)

/-- The largest entry of a row up to position `p`. -/
def rowMax : ℝ := (Finset.univ.filter fun n : Fin 2048 => n.val ≤ p.val).sup' ⟨p, by simp⟩ th
theorem le_rowMax (n : Fin 2048) (h : n.val ≤ p.val) : th n ≤ rowMax th p :=
  Finset.le_sup' th (Finset.mem_filter.mpr ⟨Finset.mem_univ _, h⟩)
theorem rowMax_mem : ∃ n : Fin 2048, n.val ≤ p.val ∧ rowMax th p = th n := by
  obtain ⟨n, hn, e⟩ := Finset.exists_mem_eq_sup' (s := Finset.univ.filter fun n : Fin 2048 => n.val ≤ p.val) ⟨p, by simp⟩ th
  exact ⟨n, (Finset.mem_filter.mp hn).2, e⟩

/-- The probability of entry `n`, not yet normalised. -/
def prR (n : Fin 2048) : ℝ := if n.val ≤ p.val then Real.exp (50 * th n - 50 * rowMax th p) else 0

/-- The probabilities' scale exponent: their largest is one. -/
def pe : BitVec 32 := expo 1 (cntR (1 * Ideal.ofBits .f32 991054117#32))
theorem pe_range : -125 ≤ pe.toInt ∧ pe.toInt ≤ 120 := expo_range _ _
def psc : ℝ := (2 : ℝ) ^ pe.toInt
theorem psc_pos : 0 < psc := by unfold psc; positivity

/-- One entry of the output. -/
def rowY (vc : Fin 2048 → EReal) (vs : Fin 16 → EReal) : EReal :=
  (∑ b : Fin 16, (∑ x : Fin 128, vc (at128 b x) * min (Ideal.ofBits .f32 1138753536#32)
      (max (Ideal.ofBits .f32 3286237184#32) ((prR th p (at128 b x) * psc⁻¹ : ℝ) : EReal))) * vs b)
    * Ideal.div (psc : EReal) (∑ n, (prR th p n : EReal))

/-- The row's scores as the plain reading has them. -/
theorem ref_max (s : Fin 2048 → EReal) (hs : ∀ n, s n = if n.val ≤ p.val then ((50 * th n : ℝ) : EReal) else ⊥) :
    Finset.fold max (⊥ : EReal) s Finset.univ = ((50 * rowMax th p : ℝ) : EReal) := by
  apply le_antisymm
  · rw [Finset.fold_max_le]
    refine ⟨bot_le, fun n _ => ?_⟩
    rw [hs]
    split
    · rename_i h
      have := le_rowMax th p n h
      exact_mod_cast (by linarith : 50 * th n ≤ 50 * rowMax th p)
    · exact bot_le
  · obtain ⟨n, hn, e⟩ := rowMax_mem th p
    refine (Finset.le_fold_max _).mpr (.inr ⟨n, Finset.mem_univ _, ?_⟩)
    rw [hs, if_pos hn, e]

theorem ref_pr (s : Fin 2048 → EReal) (hs : ∀ n, s n = if n.val ≤ p.val then ((50 * th n : ℝ) : EReal) else ⊥) (n : Fin 2048) :
    Ideal.exp (s n - Finset.fold max (⊥ : EReal) s Finset.univ) = (prR th p n : EReal) := by
  rw [ref_max th p s hs, hs]
  unfold prR
  split
  · rw [← EReal.coe_sub, Ideal.exp_coe]
  · rw [EReal.bot_sub, Ideal.exp_bot]; rfl

theorem prR_le (n : Fin 2048) : prR th p n ≤ 1 := by
  unfold prR
  split
  · rename_i h
    have := le_rowMax th p n h
    exact Real.exp_le_one_iff.mpr (by linarith)
  · norm_num
theorem prR_nonneg (n : Fin 2048) : 0 ≤ prR th p n := by
  unfold prR
  split
  · exact (Real.exp_pos _).le
  · exact le_rfl

theorem ref_amax (P : Fin 2048 → EReal) (hP : ∀ n, P n = (prR th p n : EReal)) :
    Finset.fold max (⊥ : EReal) (fun n => max (P n) (-P n)) Finset.univ = 1 := by
  apply le_antisymm
  · rw [Finset.fold_max_le]
    refine ⟨bot_le, fun n _ => ?_⟩
    have h1 := prR_le th p n
    have h2 := prR_nonneg th p n
    rw [hP, ← EReal.coe_neg]
    refine max_le ?_ ?_
    · exact_mod_cast h1
    · exact_mod_cast (by linarith : -prR th p n ≤ 1)
  · obtain ⟨n, hn, e⟩ := rowMax_mem th p
    refine (Finset.le_fold_max _).mpr (.inr ⟨n, Finset.mem_univ _, le_trans ?_ (le_max_left _ _)⟩)
    rw [hP]
    unfold prR
    rw [if_pos hn, e, sub_self, Real.exp_zero]
    exact le_rfl

/-- The probability over its scale, in powers of two. -/
theorem ker_exp (t T : ℝ) :
    FloatOps.exp2 (F := Ideal) (φ := .f32) (((t : ℝ) : EReal) * ((50 * (Real.log 2)⁻¹ : ℝ) : EReal) + (0 - FloatOps.sitofp (F := Ideal) .f32 pe - ((50 * (Real.log 2)⁻¹ : ℝ) : EReal) * ((T : ℝ) : EReal)))
      = ((Real.exp (50 * t - 50 * T) * psc⁻¹ : ℝ) : EReal) := by
  show Ideal.exp2 (((t : ℝ) : EReal) * ((50 * (Real.log 2)⁻¹ : ℝ) : EReal) + (((0 : ℝ) : EReal) - ((pe.toInt : ℝ) : EReal) - ((50 * (Real.log 2)⁻¹ : ℝ) : EReal) * ((T : ℝ) : EReal))) = _
  rw [← EReal.coe_mul, ← EReal.coe_mul, ← EReal.coe_sub, ← EReal.coe_sub, ← EReal.coe_add, Ideal.exp2_coe]
  congr 1
  have hl : Real.log 2 ≠ 0 := (Real.log_pos (by norm_num)).ne'
  show (2 : ℝ) ^ (_ : ℝ) = _
  have hp : psc⁻¹ = Real.exp (-(Real.log 2 * pe.toInt)) := by
    unfold psc
    rw [← Real.rpow_intCast, Real.rpow_def_of_pos (by norm_num : (0 : ℝ) < 2), Real.exp_neg]
  rw [hp, ← Real.exp_add, Real.rpow_def_of_pos (by norm_num : (0 : ℝ) < 2)]
  congr 1
  field_simp
  ring

end Row

/-- The raw score: a product of two rows of codes summed. -/
def dotR (T U : Fin 128 → Fin 128 → EReal) (a b : Fin 128) : ℝ := Classical.choose (dot_real T U a b)
theorem dotR_eq (T U : Fin 128 → Fin 128 → EReal) (a b : Fin 128) : (∑ x, cd T a x * cd U b x) = (dotR T U a b : EReal) :=
  Classical.choose_spec (dot_real T U a b)

/-- The capped score of entry `n` for row `r` of query tile `TQ`. -/
def rawR (TK : Fin 16 → Fin 128 → Fin 128 → EReal) (TQ : Fin 128 → Fin 128 → EReal) (r : Fin 128) (n : Fin 2048) : ℝ :=
  dotR (TK ⟨n.val / 128, by omega⟩) TQ ⟨n.val % 128, by omega⟩ r * scR (TK ⟨n.val / 128, by omega⟩)
def thRow (TK : Fin 16 → Fin 128 → Fin 128 → EReal) (TQ : Fin 128 → Fin 128 → EReal) (r : Fin 128) (n : Fin 2048) : ℝ :=
  Real.tanh (rawR TK TQ r n * (scR TQ * ((Real.sqrt 128)⁻¹ * (1 / 50))))

/-- Entry `d` of the output row of position `p`. -/
def outY (TK TV : Fin 16 → Fin 128 → Fin 128 → EReal) (TQ : Fin 128 → Fin 128 → EReal) (r : Fin 128) (p : Fin 2048) (d : Fin 128) : EReal :=
  rowY (thRow TK TQ r) p (fun n => cd (TV ⟨n.val / 128, by omega⟩) ⟨n.val % 128, by omega⟩ d) (fun b => scE (TV b))

end Cert.Math
end
-- ==== Proof.Math.KerY.lean ====
module

public import proofs.«01_k».proof.Proof.Math.KerQ
public import proofs.«01_k».proof.Proof.Math.Row

@[expose] public section

set_option maxRecDepth 16384

noncomputable section

namespace Cert.KernelIdeal.Math

open Cert.KernelIdeal Cert.KernelIdeal.Gen Cert.Math
open Cert.KernelIdeal.Strong (maskD hMax hT hE hEs hPs hSh hAcc hL hP hAccD hOut hY qt ct kt row)
open Idealize.ShloMosaic

/-- A position within a group of four heads' rows, by its remainder. -/
theorem lane_rem : ∀ c : Fin 512, (Scalar.select
        (IntOp.andi
          (IntOp.xori
            (IntOp.cmpi CmpIPredicate.slt
              (IntOp.remsi ArithUnit.vector (BitVec.ofNat 32 c.val)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 c.val)
              (Scalar.select (Scalar.cmpi CmpIPredicate.eq 128#32 0#32) 1#32 128#32))
            0#32))
        (IntOp.addi
          (IntOp.remsi ArithUnit.vector (BitVec.ofNat 32 c.val)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 c.val)
          (Scalar.select (Scalar.cmpi CmpIPredicate.eq 128#32 0#32) 1#32 128#32))) = BitVec.ofNat 32 (c.val % 128) := by
  decide +kernel

theorem mask_at {α : Type} (s : Fin 128) (c : Fin 512) (a b : α) : Scalar.select (maskD (ix2 s c)) a b = if s.val ≤ c.val % 128 then a else b := by
  have h : maskD (ix2 s c) = IntOp.cmpi CmpIPredicate.sle (BitVec.ofNat 32 s.val) (BitVec.ofNat 32 (c.val % 128)) := by
    unfold maskD
    pointwise [k0_pay1, k0_pay547]
    rw [lane_rem]
  rw [h, sel_le _ _ (by omega) (by omega)]

theorem pay10_at (q : Vec Ideal S1x512x128 .fp8e4m3) (b : Fin 512) (c : Fin 128) : k0_pay10 (F := Ideal) q (ix2 b c) = q (ix3 0 b c) := by
  pointwise [k0_pay10]
theorem pay11_at (b : Fin 8) (c : Fin 512) : k0_pay11 (F := Ideal) (ix2 b c) = Ideal.ofBits .f32 4286578688#32 := by
  pointwise [k0_pay11]
theorem pay20_at (b : Fin 128) (c : Fin 512) : k0_pay20 (F := Ideal) (ix2 b c) = 0 := by
  pointwise [k0_pay20]
theorem pay21_at (b : Fin 8) (c : Fin 512) : k0_pay21 (F := Ideal) (ix2 b c) = 0 := by
  pointwise [k0_pay21]
theorem pay12_at (q : Vec Ideal S1x512x128 .fp8e4m3) (a : FVec Ideal S8x512 .f32) (k : Vec Ideal S1x1x128x128 .fp8e4m3) (v : Vec Ideal S1x512 .f32) (b : Fin 8) (c : Fin 512) :
    k0_pay12 (F := Ideal) q a k v (ix2 b c) = max (a (ix2 b c)) (Finset.fold max (Ideal.ofBits .f32 4286578688#32)
      (fun x : Fin 16 => ∑ y : Fin 128, k (ix4 0 0 ⟨x.val * 8 + b.val, by omega⟩ y) * k0_pay10 q (ix2 c y)) Finset.univ * v (ix2 0 c)) := by
  pointwise [k0_pay12]
theorem pay14_at (mk : IVec S128x512 1) (a : Vec Ideal S1x512x128 .fp8e4m3) (t : Vec Ideal S1x512 .f32) (k : FVec Ideal S8x512 .f32) (u : Vec Ideal S1x1x128x128 .fp8e4m3) (v : Vec Ideal S1x512 .f32) (b : Fin 1) (c : Fin 512) :
    k0_pay14 (F := Ideal) mk a t k u v (ix2 b c) = Ideal.tanh (Finset.fold max (Ideal.ofBits .f32 4286578688#32) (fun x : Fin 8 =>
      max (k (ix2 x c)) (Finset.fold max (Ideal.ofBits .f32 4286578688#32) (fun x_1 : Fin 16 => Scalar.select (mk (ix2 ⟨x_1.val * 8 + x.val, by omega⟩ c))
        (∑ y : Fin 128, u (ix4 0 0 ⟨x_1.val * 8 + x.val, by omega⟩ y) * k0_pay10 a (ix2 c y)) (Ideal.ofBits .f32 4286578688#32)) Finset.univ * v (ix2 0 c))) Finset.univ * t (ix2 b c)) := by
  pointwise [k0_pay14]
theorem pay4_at (a : FVec Ideal S512x128 .fp8e4m3) (t : Vec Ideal S1x512 .f32) (k : FVec Ideal S1x512 .f32) (u : Vec Ideal S1x1x128x128 .fp8e4m3) (v : Vec Ideal S1x512 .f32) (b : Fin 128) (c : Fin 512) :
    k0_pay4 (F := Ideal) a t k u v (ix2 b c) = FloatOps.exp2 (F := Ideal) (φ := .f32) (Ideal.tanh ((∑ x : Fin 128, u (ix4 0 0 b x) * a (ix2 c x)) * (t (ix2 0 c) * v (ix2 0 c))) * Named.named (F := Ideal) κ "exp2_gain" (φ := .f32) 1116751102#32 + k (ix2 0 c)) := by
  pointwise [k0_pay4]
theorem pay24_at (mk : IVec S128x512 1) (a : FVec Ideal S512x128 .fp8e4m3) (t : Vec Ideal S1x512 .f32) (k : FVec Ideal S1x512 .f32) (u : Vec Ideal S1x1x128x128 .fp8e4m3) (v : Vec Ideal S1x512 .f32) (b : Fin 128) (c : Fin 512) :
    k0_pay24 (F := Ideal) mk a t k u v (ix2 b c) = FloatOps.exp2 (F := Ideal) (φ := .f32) (Scalar.select (mk (ix2 b c)) (Ideal.tanh ((∑ x : Fin 128, u (ix4 0 0 b x) * a (ix2 c x)) * (t (ix2 0 c) * v (ix2 0 c))) * Named.named (F := Ideal) κ "exp2_gain" (φ := .f32) 1116751102#32 + k (ix2 0 c)) (Ideal.ofBits .f32 4286578688#32)) := by
  pointwise [k0_pay24]
theorem pay5_at (a : FVec Ideal S512x128 .fp8e4m3) (t : Vec Ideal S1x512 .f32) (k : FVec Ideal S1x512 .f32) (u : Vec Ideal S1x1x128x128 .fp8e4m3) (v : Vec Ideal S1x512 .f32) (w : Vec Ideal S1x1x128x128 .fp8e4m3) (acc : Vec Ideal S128x512 .f32) (vr : Vec Ideal S1x512 .f32) (b : Fin 128) (c : Fin 512) :
    k0_pay5 (F := Ideal) a t k u v w acc vr (ix2 b c) = acc (ix2 b c) + (∑ x : Fin 128, w (ix4 0 0 b x) * min (Ideal.ofBits .f32 1138753536#32) (max (Ideal.ofBits .f32 3286237184#32) (k0_pay4 a t k u v (ix2 x c)))) * vr (ix2 0 c) := by
  pointwise [k0_pay5]
theorem pay6_at (a : FVec Ideal S512x128 .fp8e4m3) (t : Vec Ideal S1x512 .f32) (k : FVec Ideal S1x512 .f32) (u : Vec Ideal S1x1x128x128 .fp8e4m3) (v : Vec Ideal S1x512 .f32) (x : Fin 16) (b : Fin 8) (c : Fin 512) :
    k0_pay6 (F := Ideal) a t k u v (ix3 x b c) = k0_pay4 a t k u v (ix2 ⟨x.val * 8 + b.val, by omega⟩ c) := by
  pointwise [k0_pay6]
theorem pay22_at (a : FVec Ideal S8x512 .f32)  (v : FVec Ideal S16x8x512 .f32) (b : Fin 8) (c : Fin 512) : k0_pay22 (F := Ideal) a v (ix2 b c) = a (ix2 b c) + ∑ x : Fin 16, v (ix3 x b c) := by
  pointwise [k0_pay22]
theorem pay25_at (mk : IVec S128x512 1) (a : FVec Ideal S512x128 .fp8e4m3) (t : Vec Ideal S1x512 .f32) (k : FVec Ideal S1x512 .f32) (u : Vec Ideal S1x1x128x128 .fp8e4m3) (v : Vec Ideal S1x512 .f32) (w : Vec Ideal S1x1x128x128 .fp8e4m3) (b : Fin 128) (c : Fin 512) :
    k0_pay25 (F := Ideal) mk a t k u v w (ix2 b c) = ∑ x : Fin 128, w (ix4 0 0 b x) * min (Ideal.ofBits .f32 1138753536#32) (max (Ideal.ofBits .f32 3286237184#32) (k0_pay24 mk a t k u v (ix2 x c))) := by
  pointwise [k0_pay25]
theorem pay26_at (a : FVec Ideal S128x512 .f32) (t : Vec Ideal S128x512 .f32) (v : Vec Ideal S1x512 .f32) (b : Fin 128) (c : Fin 512) : k0_pay26 (F := Ideal) a t v (ix2 b c) = t (ix2 b c) + a (ix2 b c) * v (ix2 0 c) := by
  pointwise [k0_pay26]
theorem pay15_at (mk : IVec S128x512 1) (q : Vec Ideal S1x512x128 .fp8e4m3) (t : Vec Ideal S1x512 .f32) (a : FVec Ideal S8x512 .f32) (u : Vec Ideal S1x1x128x128 .fp8e4m3) (v : Vec Ideal S1x512 .f32) (b : Fin 1) (c : Fin 512) :
    k0_pay15 (F := Ideal) mk q t a u v (ix2 b c) = Ideal.exp (Ideal.ofBits .f32 1112014848#32 * k0_pay14 mk q t a u v (ix2 b c) - Ideal.ofBits .f32 1112014848#32 * k0_pay14 mk q t a u v (ix2 b c)) := by
  pointwise [k0_pay15]
theorem pay16_at (mk : IVec S128x512 1) (q : Vec Ideal S1x512x128 .fp8e4m3) (t : Vec Ideal S1x512 .f32) (a : FVec Ideal S8x512 .f32) (u : Vec Ideal S1x1x128x128 .fp8e4m3) (v : Vec Ideal S1x512 .f32) (b : Fin 1) (c : Fin 512) :
    k0_pay16 (F := Ideal) mk q t a u v (ix2 b c) = Ideal.exp (Ideal.ofBits .f32 1112014848#32 * k0_pay14 mk q t a u v (ix2 b c) - Ideal.ofBits .f32 1112014848#32 * k0_pay14 mk q t a u v (ix2 b c)) * Ideal.ofBits .f32 991054117#32 := by
  pointwise [k0_pay16]
  rw [pay15_at]
theorem pay17_at (a t : FVec Ideal S1x512 .f32) (c : Fin 512) :
    k0_pay17 (F := Ideal) a t (iota .tc S256x1 32 [0] iota_S256x1_d0_w32) 1#32 (ix2 0 c) = expo (a (ix2 0 c)) (cntR (t (ix2 0 c))) := by
  refine Eq.trans ?_ (expo_cnt _ _)
  pointwise [k0_pay17]
  rfl
theorem pay18_at (a t : FVec Ideal S1x512 .f32) (b : Fin 1) (c : Fin 512) (i : IVec S256x1 32) (x : BitVec 32) :
    k0_pay18 (F := Ideal) a t i x (ix2 b c) = Ideal.ofBits .f32 (IntOp.shli ArithUnit.vector (IntOp.addi (k0_pay17 a t i x (ix2 b c)) 127#32) 23#32) := by
  pointwise [k0_pay18]
theorem pay19_at (a t u : FVec Ideal S1x512 .f32) (b : Fin 1) (c : Fin 512) (i : IVec S256x1 32) (x : BitVec 32) :
    k0_pay19 (F := Ideal) u a t i x (ix2 b c) = 0 - FloatOps.sitofp (F := Ideal) .f32 (k0_pay17 a t i x (ix2 b c)) - Named.named (F := Ideal) κ "exp2_gain" (φ := .f32) 1116751102#32 * u (ix2 b c) := by
  pointwise [k0_pay19]
theorem pay27_at (l : FVec Ideal S8x512 .f32) (p : FVec Ideal S128x512 .f32) (t : FVec Ideal S1x512 .f32) (q : FVec Ideal S128x512 .f32) (b : Fin 128) (c : Fin 512) :
    k0_pay27 (F := Ideal) t l p q (ix2 b c) = q (ix2 b c) * Ideal.div (t (ix2 0 c)) ((∑ x : Fin 8, (l (ix2 x c) + ∑ x_1 : Fin 16, p (ix2 ⟨x_1.val * 8 + x.val, by omega⟩ c))) * t (ix2 0 c)) := by
  pointwise [k0_pay27]
theorem pay28_at (l : FVec Ideal S8x512 .f32) (p : FVec Ideal S128x512 .f32) (t : FVec Ideal S1x512 .f32) (q : FVec Ideal S128x512 .f32) (z : Fin 1) (b d : Fin 128) :
    k0_pay28 (F := Ideal) t l p q (ix3 z b d) = k0_pay27 (F := Ideal) t l p q (ix2 d ⟨b.val, by omega⟩) := by
  pointwise [k0_pay28]
theorem pay29_at (l : FVec Ideal S8x512 .f32) (p : FVec Ideal S128x512 .f32) (t : FVec Ideal S1x512 .f32) (q : FVec Ideal S128x512 .f32) (z : Fin 1) (b d : Fin 128) :
    k0_pay29 (F := Ideal) t l p q (ix3 z b d) = k0_pay27 (F := Ideal) t l p q (ix2 d ⟨128 + b.val, by omega⟩) := by
  pointwise [k0_pay29]
theorem pay2_at (a : FVec Ideal S128x512 .f32) (z : Fin 1) (b d : Fin 128) : k0_pay2 (F := Ideal) a (ix3 z b d) = a (ix2 d ⟨256 + b.val, by omega⟩) := by
  pointwise [k0_pay2]
theorem pay3_at (a : FVec Ideal S128x512 .f32) (z : Fin 1) (b d : Fin 128) : k0_pay3 (F := Ideal) a (ix3 z b d) = a (ix2 d ⟨384 + b.val, by omega⟩) := by
  pointwise [k0_pay3]

theorem named_gain : Named.named (F := Ideal) κ "exp2_gain" (φ := .f32) 1116751102#32 = ((50 * (Real.log 2)⁻¹ : ℝ) : EReal) := rfl
theorem named_cap : Named.named (F := Ideal) κ "cap_scale" (φ := .f32) 0x3AE7B46A#32 = (((Real.sqrt 128)⁻¹ * (1 / 50) : ℝ) : EReal) := rfl

end Cert.KernelIdeal.Math
end
-- ==== Proof.Math.KerRow.lean ====
module

public import proofs.«01_k».proof.Proof.Math.KerY

@[expose] public section

set_option maxRecDepth 16384

noncomputable section

namespace Cert.KernelIdeal.Math

open Cert.KernelIdeal Cert.KernelIdeal.Gen Cert.Math
open Cert.KernelIdeal.Strong (maskD hMax hT hE hEs hPs hSh hAcc hL hP hAccD hOut hY qt ct kt row)
open Idealize.ShloMosaic

/-- Position `x` of the `y`-th eight. -/
abbrev sub8 (y : Fin 16) (x : Fin 8) : Fin 128 := ⟨y.val * 8 + x.val, by omega⟩
theorem at128_div (kb : Fin 16) (s : Fin 128) : (⟨(at128 kb s).val / 128, by omega⟩ : Fin 16) = kb :=
  Fin.ext (by show (kb.val * 128 + s.val) / 128 = kb.val; omega)
theorem at128_mod (kb : Fin 16) (s : Fin 128) : (⟨(at128 kb s).val % 128, by omega⟩ : Fin 128) = s :=
  Fin.ext (by show (kb.val * 128 + s.val) % 128 = s.val; omega)

section Head

variable (q : Vec Ideal S8x512x128 .fp8e4m3) (kv vt : Vec Ideal S16x8x128x128 .fp8e4m3) (cq : Vec Ideal S8x512 .f32)
  (kr vr : Vec Ideal S128x512 .f32) (i : Fin 16) (j : Fin 8) (c : Fin 512)
  (TK TV : Fin 16 → Fin 128 → Fin 128 → EReal) (TQ : Fin 128 → Fin 128 → EReal) (r : Fin 128) (p : Fin 2048)
  (hrc : c.val % 128 = r.val) (hp : p.val = 128 * i.val + r.val)
  (hq : ∀ d, qt q j (ix3 0 c d) = cd TQ r d)
  (hc : ct cq j (ix2 0 c) = scE TQ * (((Real.sqrt 128)⁻¹ * (1 / 50) : ℝ) : EReal))
  (hk : ∀ kb s d, kt kv kb j (ix4 0 0 s d) = cd (TK kb) s d)
  (hr : ∀ kb, row kr kb j (ix2 0 c) = scE (TK kb))
  (hv : ∀ kb d s, kt vt kb j (ix4 0 0 d s) = cd (TV kb) s d)
  (hs : ∀ kb, row vr kb j (ix2 0 c) = scE (TV kb))

theorem raw_at (kb : Fin 16) (s : Fin 128) : rawR TK TQ r (at128 kb s) = dotR (TK kb) TQ s r * scR (TK kb) := by
  unfold rawR; rw [at128_div, at128_mod]

include hq hk in
theorem dot_at (kb : Fin 16) (s : Fin 128) : (∑ x : Fin 128, kt kv kb j (ix4 0 0 s x) * k0_pay10 (qt q j) (ix2 c x)) = (dotR (TK kb) TQ s r : EReal) := by
  rw [← dotR_eq]
  refine Finset.sum_congr rfl fun x _ => ?_
  rw [hk, pay10_at, hq]

/-- The largest raw score up to the row's position. -/
def wMax : ℝ := rowMax (rawR TK TQ r) p

include hq hk hr in
theorem step_at (a : FVec Ideal S8x512 .f32) (kb : Fin 16) (x : Fin 8) :
    k0_pay12 (qt q j) a (kt kv kb j) (row kr kb j) (ix2 x c)
      = max (a (ix2 x c)) (Finset.fold max ⊥ (fun y : Fin 16 => (rawR TK TQ r (at128 kb (sub8 y x)) : EReal)) Finset.univ) := by
  rw [pay12_at, neg_inf, hr]
  unfold scE
  rw [fold_max_mul _ _ _ (scR_pos _)]
  congr 1
  refine Finset.fold_congr fun y _ => ?_
  rw [dot_at q kv j c TK TQ r hq hk, raw_at, EReal.coe_mul]

include hq hk hr hp in
theorem hMax_le (x : Fin 8) : ∀ k, k ≤ i.val → hMax q kv kr j k (ix2 x c) ≤ (wMax TK TQ r p : EReal)
  | 0, _ => by
    show k0_pay11 (ix2 x c) ≤ _
    rw [pay11_at, neg_inf]; exact bot_le
  | k + 1, h => by
    show k0_pay12 _ (hMax q kv kr j k) _ _ (ix2 x c) ≤ _
    rw [step_at q kv kr j c TK TQ r hq hk hr]
    refine max_le (hMax_le x k (by omega)) ?_
    rw [Finset.fold_max_le]
    refine ⟨bot_le, fun y _ => ?_⟩
    refine EReal.coe_le_coe_iff.mpr (le_rowMax _ _ _ ?_)
    show (k % 16) * 128 + (y.val * 8 + x.val) ≤ p.val
    omega

include hq hk hr in
theorem le_hMax (x : Fin 8) (y : Fin 16) : ∀ k, k ≤ i.val → ∀ kb < k,
    (rawR TK TQ r (at128 (Fin.ofNat 16 kb) (sub8 y x)) : EReal) ≤ hMax q kv kr j k (ix2 x c)
  | 0, _, kb, hkb => absurd hkb (Nat.not_lt_zero _)
  | k + 1, h, kb, hkb => by
    show _ ≤ k0_pay12 _ (hMax q kv kr j k) _ _ (ix2 x c)
    rw [step_at q kv kr j c TK TQ r hq hk hr]
    rcases Nat.lt_succ_iff_lt_or_eq.mp hkb with hlt | rfl
    · exact le_trans (le_hMax x y k (by omega) kb hlt) (le_max_left _ _)
    · exact le_trans ((Finset.le_fold_max _).mpr (.inr ⟨y, Finset.mem_univ _, le_rfl⟩)) (le_max_right _ _)

include hrc hp hq hk hr in
theorem max_at : Finset.fold max (⊥ : EReal) (fun x : Fin 8 => max (hMax q kv kr j i.val (ix2 x c))
      (Finset.fold max ⊥ (fun y : Fin 16 => Scalar.select (maskD (ix2 (sub8 y x) c))
        (∑ d : Fin 128, kt kv i j (ix4 0 0 (sub8 y x) d) * k0_pay10 (qt q j) (ix2 c d)) ⊥) Finset.univ * row kr i j (ix2 0 c))) Finset.univ
    = (wMax TK TQ r p : EReal) := by
  have e : ∀ x : Fin 8, Finset.fold max (⊥ : EReal) (fun y : Fin 16 => Scalar.select (maskD (ix2 (sub8 y x) c))
        (∑ d : Fin 128, kt kv i j (ix4 0 0 (sub8 y x) d) * k0_pay10 (qt q j) (ix2 c d)) ⊥) Finset.univ * row kr i j (ix2 0 c)
      = Finset.fold max ⊥ (fun y : Fin 16 => if y.val * 8 + x.val ≤ r.val then (rawR TK TQ r (at128 i (sub8 y x)) : EReal) else ⊥) Finset.univ := by
    intro x
    rw [hr]
    unfold scE
    rw [fold_max_mul _ _ _ (scR_pos _)]
    refine Finset.fold_congr fun y _ => ?_
    rw [mask_at, hrc, dot_at q kv j c TK TQ r hq hk, raw_at, EReal.coe_mul]
    show (if y.val * 8 + x.val ≤ r.val then _ else _) * _ = _
    split
    · rfl
    · exact EReal.bot_mul_coe_of_pos (scR_pos _)
  simp only [e]
  apply le_antisymm
  · rw [Finset.fold_max_le]
    refine ⟨bot_le, fun x _ => max_le (hMax_le q kv kr i j c TK TQ r p hp hq hk hr x _ le_rfl) ?_⟩
    rw [Finset.fold_max_le]
    refine ⟨bot_le, fun y _ => ?_⟩
    split
    · refine EReal.coe_le_coe_iff.mpr (le_rowMax _ _ _ ?_)
      show i.val * 128 + (y.val * 8 + x.val) ≤ p.val
      omega
    · exact bot_le
  · obtain ⟨n, hn, en⟩ := rowMax_mem (rawR TK TQ r) p
    unfold wMax
    rw [en]
    have hn8 : n.val % 128 % 8 < 8 := by omega
    have hn16 : n.val % 128 / 8 < 16 := by omega
    have en' : ∀ kb : Fin 16, kb.val = n.val / 128 → n = at128 kb (sub8 ⟨n.val % 128 / 8, hn16⟩ ⟨n.val % 128 % 8, hn8⟩) := fun kb h => Fin.ext (by
      show n.val = kb.val * 128 + (n.val % 128 / 8 * 8 + n.val % 128 % 8); omega)
    refine (Finset.le_fold_max _).mpr (.inr ⟨⟨n.val % 128 % 8, hn8⟩, Finset.mem_univ _, ?_⟩)
    by_cases hb : n.val / 128 < i.val
    · refine le_trans ?_ (le_max_left _ _)
      have := le_hMax q kv kr i j c TK TQ r hq hk hr ⟨n.val % 128 % 8, hn8⟩ ⟨n.val % 128 / 8, hn16⟩ i.val le_rfl (n.val / 128) hb
      rwa [← en' (Fin.ofNat 16 (n.val / 128)) (by show n.val / 128 % 16 = n.val / 128; omega)] at this
    · refine le_trans ?_ (le_max_right _ _)
      refine (Finset.le_fold_max _).mpr (.inr ⟨⟨n.val % 128 / 8, hn16⟩, Finset.mem_univ _, ?_⟩)
      have hi : i.val = n.val / 128 := by omega
      rw [if_pos (show n.val % 128 / 8 * 8 + n.val % 128 % 8 ≤ r.val by omega), ← en' i hi]

/-- The largest capped score is the capped largest score. -/
theorem tMax : Real.tanh (wMax TK TQ r p * (scR TQ * ((Real.sqrt 128)⁻¹ * (1 / 50)))) = rowMax (thRow TK TQ r) p := by
  have hA : 0 ≤ scR TQ * ((Real.sqrt 128)⁻¹ * (1 / 50)) := by have := scR_pos TQ; positivity
  apply le_antisymm
  · obtain ⟨n, hn, en⟩ := rowMax_mem (rawR TK TQ r) p
    unfold wMax
    rw [en]
    exact le_rowMax (thRow TK TQ r) p n hn
  · obtain ⟨n, hn, en⟩ := rowMax_mem (thRow TK TQ r) p
    rw [en]
    exact tanh_mono (mul_le_mul_of_nonneg_right (le_rowMax (rawR TK TQ r) p n hn) hA)

include hrc hp hq hc hk hr in
theorem hT_at : hT q kv cq kr maskD i j (ix2 0 c) = (rowMax (thRow TK TQ r) p : EReal) := by
  unfold hT
  rw [pay14_at, neg_inf, max_at q kv kr i j c TK TQ r p hrc hp hq hk hr, hc]
  unfold scE
  rw [← EReal.coe_mul, ← EReal.coe_mul, Ideal.tanh_coe, tMax]

include hrc hp hq hc hk hr in
theorem hE_at : hE q kv cq kr maskD i j (ix2 0 c) = 1 := by
  have h := hT_at q kv cq kr i j c TK TQ r p hrc hp hq hc hk hr
  unfold hT at h
  unfold hE
  rw [pay15_at, h, ofBits_50, ← EReal.coe_mul, ← EReal.coe_sub, sub_self, Ideal.exp_coe, Real.exp_zero]
  rfl
include hrc hp hq hc hk hr in
theorem hEs_at : hEs q kv cq kr maskD i j (ix2 0 c) = 1 * Ideal.ofBits .f32 991054117#32 := by
  have h := hT_at q kv cq kr i j c TK TQ r p hrc hp hq hc hk hr
  unfold hT at h
  unfold hEs
  rw [pay16_at, h, ofBits_50, ← EReal.coe_mul, ← EReal.coe_sub, sub_self, Ideal.exp_coe, Real.exp_zero]
  rfl
include hrc hp hq hc hk hr in
theorem hPs_at : hPs q kv cq kr maskD i j (ix2 0 c) = (psc : EReal) := by
  unfold hPs
  rw [pay18_at, pay17_at, hE_at q kv cq kr i j c TK TQ r p hrc hp hq hc hk hr, hEs_at q kv cq kr i j c TK TQ r p hrc hp hq hc hk hr]
  have := pe_range
  exact scale_bits pe (by omega) (by omega)
include hrc hp hq hc hk hr in
theorem hSh_at : hSh q kv cq kr maskD i j (ix2 0 c)
    = 0 - FloatOps.sitofp (F := Ideal) .f32 pe - ((50 * (Real.log 2)⁻¹ : ℝ) : EReal) * ((rowMax (thRow TK TQ r) p : ℝ) : EReal) := by
  unfold hSh
  rw [pay19_at, pay17_at, hE_at q kv cq kr i j c TK TQ r p hrc hp hq hc hk hr, hEs_at q kv cq kr i j c TK TQ r p hrc hp hq hc hk hr,
    hT_at q kv cq kr i j c TK TQ r p hrc hp hq hc hk hr, named_gain]
  rfl

/-- A probability over its scale. -/
def pk (n : Fin 2048) : ℝ := prR (thRow TK TQ r) p n * psc⁻¹

include hq hc hk hr in
theorem arg_at (kb : Fin 16) (s : Fin 128) :
    Ideal.tanh ((∑ x : Fin 128, kt kv kb j (ix4 0 0 s x) * k0_pay10 (qt q j) (ix2 c x)) * (ct cq j (ix2 0 c) * row kr kb j (ix2 0 c))) = (thRow TK TQ r (at128 kb s) : EReal) := by
  rw [dot_at q kv j c TK TQ r hq hk, hc, hr]
  unfold scE
  rw [← EReal.coe_mul, ← EReal.coe_mul, ← EReal.coe_mul, Ideal.tanh_coe]
  unfold thRow
  rw [raw_at]
  congr 2
  ring

include hrc hp hq hc hk hr in
theorem p_at (kb : Fin 16) (hkb : kb < i) (s : Fin 128) :
    k0_pay4 (k0_pay10 (qt q j)) (ct cq j) (hSh q kv cq kr maskD i j) (kt kv kb j) (row kr kb j) (ix2 s c) = (pk TK TQ r p (at128 kb s) : EReal) := by
  rw [pay4_at, arg_at q kv cq kr j c TK TQ r hq hc hk hr, hSh_at q kv cq kr i j c TK TQ r p hrc hp hq hc hk hr, named_gain, ker_exp]
  unfold pk prR
  have hkb' : kb.val < i.val := hkb
  rw [if_pos (show (at128 kb s).val ≤ p.val by show kb.val * 128 + s.val ≤ p.val; omega)]

include hrc hp hq hc hk hr in
theorem hP_at (s : Fin 128) : hP q kv cq kr maskD i j (ix2 s c) = (pk TK TQ r p (at128 i s) : EReal) := by
  unfold hP
  rw [pay24_at, mask_at, hrc, arg_at q kv cq kr j c TK TQ r hq hc hk hr, hSh_at q kv cq kr i j c TK TQ r p hrc hp hq hc hk hr, named_gain, neg_inf]
  unfold pk prR
  by_cases h : s.val ≤ r.val
  · rw [if_pos h, if_pos (show (at128 i s).val ≤ p.val by show i.val * 128 + s.val ≤ p.val; omega), ker_exp]
  · rw [if_neg h, if_neg (show ¬ (at128 i s).val ≤ p.val by show ¬ i.val * 128 + s.val ≤ p.val; omega), zero_mul]
    rfl

/-- A block's share of a row sum, by position modulo eight; and of the values. -/
def lq (x : Fin 8) (b : Fin 16) : EReal := ∑ y : Fin 16, (pk TK TQ r p (at128 b (sub8 y x)) : EReal)
def vq (d : Fin 128) (b : Fin 16) : EReal :=
  (∑ x : Fin 128, cd (TV b) x d * min (Ideal.ofBits .f32 1138753536#32) (max (Ideal.ofBits .f32 3286237184#32) (pk TK TQ r p (at128 b x) : EReal))) * scE (TV b)

include hp in
theorem pk_zero (b : Fin 16) (h : i < b) (s : Fin 128) : pk TK TQ r p (at128 b s) = 0 := by
  have h' : i.val < b.val := h
  unfold pk prR
  rw [if_neg (show ¬ (at128 b s).val ≤ p.val by show ¬ b.val * 128 + s.val ≤ p.val; omega), zero_mul]
include hp in
theorem lq_zero (x : Fin 8) (b : Fin 16) (h : i < b) : lq TK TQ r p x b = 0 := by
  unfold lq
  refine Finset.sum_eq_zero fun y _ => ?_
  rw [pk_zero i TK TQ r p hp b h]; rfl
include hp in
theorem vq_zero (d : Fin 128) (b : Fin 16) (h : i < b) : vq TK TV TQ r p d b = 0 := by
  unfold vq
  rw [Finset.sum_eq_zero fun x _ => ?_, zero_mul]
  rw [pk_zero i TK TQ r p hp b h]
  show _ * min _ (max _ (0 : EReal)) = 0
  rw [clip_zero, mul_zero]

include hrc hp hq hc hk hr in
theorem hL_at (x : Fin 8) : ∀ k, k ≤ i.val → hL q kv cq kr maskD i j k (ix2 x c) = ∑ n ∈ Finset.range k, lq TK TQ r p x (Fin.ofNat 16 n)
  | 0, _ => pay21_at x c
  | k + 1, h => by
    show k0_pay22 (hL q kv cq kr maskD i j k) _ (ix2 x c) = _
    rw [pay22_at, hL_at x k (by omega), Finset.sum_range_succ]
    refine congrArg (_ + ·) (Finset.sum_congr rfl fun y _ => ?_)
    rw [pay6_at]
    exact p_at q kv cq kr i j c TK TQ r p hrc hp hq hc hk hr _ (show k % 16 < i.val by omega) _

include hrc hp hq hc hk hr hv hs in
theorem hAcc_at (d : Fin 128) : ∀ k, k ≤ i.val → hAcc q kv vt cq kr vr maskD i j k (ix2 d c) = ∑ n ∈ Finset.range k, vq TK TV TQ r p d (Fin.ofNat 16 n)
  | 0, _ => pay20_at d c
  | k + 1, h => by
    show k0_pay5 _ _ _ _ _ _ (hAcc q kv vt cq kr vr maskD i j k) _ (ix2 d c) = _
    rw [pay5_at, hAcc_at d k (by omega), Finset.sum_range_succ, hs]
    refine congrArg (_ + ·) (congrArg (· * _) (Finset.sum_congr rfl fun y _ => ?_))
    rw [hv, p_at q kv cq kr i j c TK TQ r p hrc hp hq hc hk hr _ (show k % 16 < i.val by omega)]

include hrc hp hq hc hk hr hv hs in
theorem hAccD_at (d : Fin 128) : hAccD q kv vt cq kr vr maskD i j (ix2 d c) = ∑ b, vq TK TV TQ r p d b := by
  rw [← sum_blocks _ i (vq_zero i TK TV TQ r p hp d)]
  unfold hAccD
  rw [pay26_at, pay25_at, hAcc_at q kv vt cq kr vr i j c TK TV TQ r p hrc hp hq hc hk hr hv hs d _ le_rfl, hs]
  refine congrArg (_ + ·) (congrArg (· * _) (Finset.sum_congr rfl fun y _ => ?_))
  have h := hP_at q kv cq kr i j c TK TQ r p hrc hp hq hc hk hr y
  unfold hP at h
  rw [hv, h]

include hrc hp hq hc hk hr in
theorem sum_at : (∑ x : Fin 8, (hL q kv cq kr maskD i j i.val (ix2 x c) + ∑ y : Fin 16, hP q kv cq kr maskD i j (ix2 (sub8 y x) c))) * (psc : EReal)
    = ∑ n, (prR (thRow TK TQ r) p n : EReal) := by
  have e1 : ∀ x : Fin 8, hL q kv cq kr maskD i j i.val (ix2 x c) + ∑ y : Fin 16, hP q kv cq kr maskD i j (ix2 (sub8 y x) c) = ∑ b, lq TK TQ r p x b := by
    intro x
    rw [← sum_blocks _ i (lq_zero i TK TQ r p hp x), hL_at q kv cq kr i j c TK TQ r p hrc hp hq hc hk hr x _ le_rfl]
    exact congrArg (_ + ·) (Finset.sum_congr rfl fun y _ => hP_at q kv cq kr i j c TK TQ r p hrc hp hq hc hk hr _)
  have e2 : ∑ x : Fin 8, ∑ b, lq TK TQ r p x b = ∑ n, (pk TK TQ r p n : EReal) := by
    rw [Finset.sum_comm, sum_2048]
    refine Finset.sum_congr rfl fun b _ => ?_
    exact sum_128 fun s => (pk TK TQ r p (at128 b s) : EReal)
  rw [Finset.sum_congr rfl fun x _ => e1 x, e2, ← coe_sum, ← coe_sum, ← EReal.coe_mul, Finset.sum_mul]
  congr 1
  refine Finset.sum_congr rfl fun n _ => ?_
  unfold pk
  rw [mul_assoc, inv_mul_cancel₀ psc_pos.ne', mul_one]

include hrc hp hq hc hk hr hv hs in
theorem hOut_at (d : Fin 128) : hOut q kv vt cq kr vr maskD i j (ix2 d c) = outY TK TV TQ r p d := by
  unfold hOut
  rw [pay27_at, hAccD_at q kv vt cq kr vr i j c TK TV TQ r p hrc hp hq hc hk hr hv hs, hPs_at q kv cq kr i j c TK TQ r p hrc hp hq hc hk hr,
    sum_at q kv cq kr i j c TK TQ r p hrc hp hq hc hk hr]
  have key : ∀ b, vq TK TV TQ r p d b = (∑ x : Fin 128, cd (TV ⟨(at128 b x).val / 128, by omega⟩) ⟨(at128 b x).val % 128, by omega⟩ d *
      min (Ideal.ofBits .f32 1138753536#32) (max (Ideal.ofBits .f32 3286237184#32) ((prR (thRow TK TQ r) p (at128 b x) * psc⁻¹ : ℝ) : EReal))) * scE (TV b) := by
    intro b
    unfold vq
    refine congrArg (· * _) (Finset.sum_congr rfl fun x _ => ?_)
    rw [at128_div, at128_mod]
    rfl
  unfold outY rowY
  rw [Finset.sum_congr rfl fun b _ => key b]

end Head

/-- A head group's stored tiles are the transposed columns of its output. -/
theorem hY_at (q : Vec Ideal S8x512x128 .fp8e4m3) (kv vt : Vec Ideal S16x8x128x128 .fp8e4m3) (cq : Vec Ideal S8x512 .f32)
    (kr vr : Vec Ideal S128x512 .f32) (mask : IVec S128x512 1) (i : Fin 16) (j : Fin 8) (g : Fin 4) (z : Fin 1) (r d : Fin 128) :
    hY q kv vt cq kr vr mask i j g (ix3 z r d) = hOut q kv vt cq kr vr mask i j (ix2 d ⟨128 * g.val + r.val, by omega⟩) := by
  match g with
  | 0 => exact (pay28_at _ _ _ _ _ _ _).trans (congrArg (fun x => hOut q kv vt cq kr vr mask i j (ix2 d x)) (Fin.ext (by show r.val = 128 * 0 + r.val; omega)))
  | 1 => exact (pay29_at _ _ _ _ _ _ _).trans (congrArg (fun x => hOut q kv vt cq kr vr mask i j (ix2 d x)) (Fin.ext (by show 128 + r.val = 128 * 1 + r.val; omega)))
  | 2 => exact (pay2_at _ _ _ _).trans (congrArg (fun x => hOut q kv vt cq kr vr mask i j (ix2 d x)) (Fin.ext (by show 256 + r.val = 128 * 2 + r.val; omega)))
  | 3 => exact (pay3_at _ _ _ _).trans (congrArg (fun x => hOut q kv vt cq kr vr mask i j (ix2 d x)) (Fin.ext (by show 384 + r.val = 128 * 3 + r.val; omega)))

end Cert.KernelIdeal.Math
end
-- ==== Proof.Math.RefY.lean ====
module

public import proofs.«01_k».proof.Proof.Math.RefQ
public import proofs.«01_k».proof.Proof.Math.Row

@[expose] public section

set_option maxRecDepth 16384

noncomputable section

namespace Cert.ReferenceIdeal.Math

open Cert.ReferenceIdeal Cert.ReferenceIdeal.Gen Cert.Math
open Idealize.ShloMosaic

/-- The products accumulated block by block, before the blocks' scales. -/
def accR (v134 : FVec Ideal S8x2048x1024 .fp8e4m3) (v179 : FVec Ideal S8x8x4x2048x2048 .f32) (v207 : IVec S8x8x4x2048 32) : FVec Ideal S8x8x16x128x4x2048 .f32 :=
  have v211 : IVec S8x8x4x2048 32 := subi (broadcast S8x8x4x2048 0#32) v207
  have v213 : FVec Ideal S8x8x4x2048 .f32 := exp2 (sitofp .f32 v211)
  have v215 : FVec Ideal S8x8x4x2048x2048 .f32 := broadcastTo S8x8x4x2048x2048 (shapeCast S8x8x4x2048x1 v213 shapeCasts_S8x8x4x2048_S8x8x4x2048x1) broadcasts_S8x8x4x2048x1_S8x8x4x2048x2048
  have v216 : FVec Ideal S8x8x4x2048x2048 .f32 := mulf v179 v215
  have v218 : FVec Ideal S8x8x4x2048x2048 .f32 := maximumf (broadcast S8x8x4x2048x2048 (Scalar.ofBits .f32 0xC3E00000#32)) v216
  have v220 : FVec Ideal S8x8x4x2048x2048 .f32 := minimumf (broadcast S8x8x4x2048x2048 (Scalar.ofBits .f32 0x43E00000#32)) v218
  have v221 : FVec Ideal S8x8x4x2048x2048 .fp8e4m3 := truncf .fp8e4m3 v220 bitsLt_fp8e4m3_f32
  have v222 : FVec Ideal S8x8x4x2048x16x128 .fp8e4m3 := shapeCast S8x8x4x2048x16x128 v221 shapeCasts_S8x8x4x2048x2048_S8x8x4x2048x16x128
  have v223 : FVec Ideal S8x16x128x8x128 .fp8e4m3 := shapeCast S8x16x128x8x128 v134 shapeCasts_S8x2048x1024_S8x16x128x8x128
  matmul dot_S8x16x128x8x128_S8x8x4x2048x16x128_S8x8x16x128x4x2048_2_5_4_23_031_014 none v223 v222 (constant S8x8x16x128x4x2048 .f32 0x00000000#32)

/-- The same with the blocks' scales. -/
def accS (v121 : FVec Ideal S8x16x8 .f32) (v224 : FVec Ideal S8x8x16x128x4x2048 .f32) : FVec Ideal S8x8x4x2048x16x128 .f32 :=
  have v225 : FVec Ideal S8x8x4x2048x16x128 .f32 := transpose S8x8x4x2048x16x128 [0, 1, 4, 5, 2, 3] v224 transposes_S8x8x16x128x4x2048_p0_1_4_5_2_3_S8x8x4x2048x16x128
  have v226 : FVec Ideal S8x8x16 .f32 := transpose S8x8x16 [0, 2, 1] v121 transposes_S8x16x8_p0_2_1_S8x8x16
  have v228 : FVec Ideal S8x8x4x2048x16x128 .f32 := broadcastTo S8x8x4x2048x16x128 (shapeCast S8x8x1x1x16x1 v226 shapeCasts_S8x8x16_S8x8x1x1x16x1) broadcasts_S8x8x1x1x16x1_S8x8x4x2048x16x128
  mulf v225 v228

def sumS (v229 : FVec Ideal S8x8x4x2048x16x128 .f32) : FVec Ideal S8x8x4x2048x128 .f32 :=
  multiReduction .add [4] S8x8x4x2048x128 v229 0x00000000#32 reduces_S8x8x4x2048x16x128_S8x8x4x2048x128 (.inl rfl) rfl

def outS (v230 : FVec Ideal S8x8x4x2048x128 .f32) (v180 : FVec Ideal S8x8x4x2048 .f32) (v207 : IVec S8x8x4x2048 32) : FVec Ideal S8x2048x4096 .bf16 :=
  have v231 : FVec Ideal S8x8x4x2048 .f32 := divf (exp2 (sitofp .f32 v207)) v180
  have v233 : FVec Ideal S8x8x4x2048x128 .f32 := broadcastTo S8x8x4x2048x128 (shapeCast S8x8x4x2048x1 v231 shapeCasts_S8x8x4x2048_S8x8x4x2048x1) broadcasts_S8x8x4x2048x1_S8x8x4x2048x128
  have v235 : FVec Ideal S8x2048x8x4x128 .f32 := transpose S8x2048x8x4x128 [0, 3, 1, 2, 4] (mulf v230 v233) transposes_S8x8x4x2048x128_p0_3_1_2_4_S8x2048x8x4x128
  truncf .bf16 (shapeCast S8x2048x4096 v235 shapeCasts_S8x2048x8x4x128_S8x2048x4096 : FVec Ideal S8x2048x4096 .f32) bitsLt_bf16_f32

theorem pay1_eq (v121 : FVec Ideal S8x16x8 .f32) (v134 : FVec Ideal S8x2048x1024 .fp8e4m3) (v179 : FVec Ideal S8x8x4x2048x2048 .f32) (v180 : FVec Ideal S8x8x4x2048 .f32) (v207 : IVec S8x8x4x2048 32) :
    k0_pay1 v121 v134 v179 v180 v207 = outS (sumS (accS v121 (accR v134 v179 v207))) v180 v207 := rfl

theorem accR_at (v134 : FVec Ideal S8x2048x1024 .fp8e4m3) (v179 : FVec Ideal S8x8x4x2048x2048 .f32) (v207 : IVec S8x8x4x2048 32)
   (b : Fin 8) (h : Fin 8) (n : Fin 16) (d : Fin 128) (g : Fin 4) (q : Fin 2048) : accR v134 v179 v207 (ix6 b h n d g q) = ∑ x : Fin 128, v134 (ix3 b (at128 n x) ⟨h.val * 128 + d.val, by omega⟩) *
        min (Ideal.ofBits .f32 1138753536#32) (max (Ideal.ofBits .f32 3286237184#32)
            (v179 (ix5 b h g q (at128 n x)) * FloatOps.exp2 (F := Ideal) (FloatOps.sitofp .f32 (IntOp.subi (0#32) (v207 (ix4 b h g q)))))) := by
  pointwise [accR]
  rfl
theorem accS_at (v121 : FVec Ideal S8x16x8 .f32) (v224 : FVec Ideal S8x8x16x128x4x2048 .f32)
   (b : Fin 8) (h : Fin 8) (n : Fin 16) (d : Fin 128) (g : Fin 4) (q : Fin 2048) : accS v121 v224 (ix6 b h g q n d) = v224 (ix6 b h n d g q) * v121 (ix3 b n h) := by
  pointwise [accS]
theorem outS_at (v230 : FVec Ideal S8x8x4x2048x128 .f32) (v180 : FVec Ideal S8x8x4x2048 .f32) (v207 : IVec S8x8x4x2048 32)
   (b : Fin 8) (n : Fin 2048) (h : Fin 4096) : outS v230 v180 v207 (ix3 b n h) = v230 (ix5 b ⟨h.val / 512, by omega⟩ ⟨h.val / 128 % 4, by omega⟩ n ⟨h.val % 128, by omega⟩) *
      Ideal.div (FloatOps.exp2 (F := Ideal) (FloatOps.sitofp .f32 (v207 (ix4 b ⟨h.val / 512, by omega⟩ ⟨h.val / 128 % 4, by omega⟩ n))))
        (v180 (ix4 b ⟨h.val / 512, by omega⟩ ⟨h.val / 128 % 4, by omega⟩ n)) := by
  pointwise [outS]
theorem sumS_at (v229 : FVec Ideal S8x8x4x2048x16x128 .f32)
   (b : Fin 8) (h : Fin 8) (d : Fin 128) (g : Fin 4) (q : Fin 2048) : sumS v229 (ix5 b h g q d) = ∑ n : Fin 16, v229 (ix6 b h g q n d) := by
  refine (Ideal.reduceAdd_single _ _ _).trans ?_
  refine Finset.sum_congr rfl fun n _ => congrArg v229 ?_
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl
  | ⟨5, _⟩ => exact Fin.ext rfl

/-- The exponents from the rows' largest magnitudes. -/
def expP (v182 : FVec Ideal S8x8x4x2048 .f32) : IVec S8x8x4x2048 32 :=
  have v184 : FVec Ideal S8x8x4x2048 .f32 := mulf v182 (broadcast S8x8x4x2048 (Scalar.ofBits .f32 0x3B124925#32))
  have v189 : FVec Ideal S8x8x4x2048x254 .f32 := exp2 (sitofp .f32 (subi (iota .tc S8x8x4x2048x254 32 [4] iota_S8x8x4x2048x254_d4_w32) (broadcast S8x8x4x2048x254 126#32)))
  have v191 : FVec Ideal S8x8x4x2048x254 .f32 := broadcastTo S8x8x4x2048x254 (shapeCast S8x8x4x2048x1 v184 shapeCasts_S8x8x4x2048_S8x8x4x2048x1) broadcasts_S8x8x4x2048x1_S8x8x4x2048x254
  have v194 : IVec S8x8x4x2048 32 := multiReductionI .add [4] S8x8x4x2048 (extui 32 (cmpf .oge v191 v189) natLt_1_32) 0#32 reduces_S8x8x4x2048x254_S8x8x4x2048 rfl
  have v203 : IVec S8x8x4x2048 32 := select (ori (cmpi .eq v194 (broadcast S8x8x4x2048 0#32)) (cmpi .sgt v194 (broadcast S8x8x4x2048 246#32))) (broadcast S8x8x4x2048 0#32) (subi v194 (broadcast S8x8x4x2048 126#32))
  select (cmpf .oeq v182 (broadcast S8x8x4x2048 (Scalar.ofBits .f32 0x00000000#32))) (broadcast S8x8x4x2048 0#32) v203
def maxP (v179 : FVec Ideal S8x8x4x2048x2048 .f32) : FVec Ideal S8x8x4x2048 .f32 :=
  multiReduction .maximumf [4] S8x8x4x2048 (absf v179) 0xFF800000#32 reduces_S8x8x4x2048x2048_S8x8x4x2048 (.inl rfl) rfl

theorem pay25_eq (v160 : FVec Ideal S8x8x4x2048x2048 .f32) (v162 : FVec Ideal S8x8x1x1x2048 .f32) : k0_pay25 v160 v162 = expP (maxP (k0_pay23 v160 v162)) := rfl

theorem expP_at (v : FVec Ideal S8x8x4x2048 .f32) (b h : Fin 8) (g : Fin 4) (q : Fin 2048) :
    expP v (ix4 b h g q) = expo (v (ix4 b h g q)) (cntR (v (ix4 b h g q) * Ideal.ofBits .f32 991054117#32)) := by
  pointwise [expP]
  rfl
theorem maxP_at (v : FVec Ideal S8x8x4x2048x2048 .f32) (b h : Fin 8) (g : Fin 4) (q : Fin 2048) :
    maxP v (ix4 b h g q) = Finset.fold max (Ideal.ofBits .f32 4286578688#32) (fun n : Fin 2048 => max (v (ix5 b h g q n)) (-v (ix5 b h g q n))) Finset.univ := by
  pointwise [maxP]
  rfl
theorem pay24_at (v160 : FVec Ideal S8x8x4x2048x2048 .f32) (v162 : FVec Ideal S8x8x1x1x2048 .f32) (b h : Fin 8) (g : Fin 4) (q : Fin 2048) :
    k0_pay24 v160 v162 (ix4 b h g q) = ∑ n : Fin 2048, k0_pay23 v160 v162 (ix5 b h g q n) := by
  pointwise [k0_pay24]
theorem pay21_at (v33 : FVec Ideal S8x16x32 .f32) (v46 : FVec Ideal S8x2048x4096 .fp8e4m3) (v90 : FVec Ideal S8x2048x1024 .fp8e4m3) (b h : Fin 8) (g : Fin 4) (q n : Fin 2048) :
    k0_pay21 v33 v46 v90 (ix5 b h g q n) = (∑ x : Fin 128, v90 (ix3 b n ⟨h.val * 128 + x.val, by omega⟩) * v46 (ix3 b q ⟨h.val * 512 + g.val * 128 + x.val, by omega⟩)) *
      (v33 (ix3 b ⟨q.val / 128, by omega⟩ ⟨h.val * 4 + g.val, by omega⟩) * Named.named (F := Ideal) κ "sm_scale" (φ := .f32) 1035273459#32) := by
  pointwise [k0_pay21]
/-- A row's capped and masked scores. -/
def scoreR (v160 : FVec Ideal S8x8x4x2048x2048 .f32) (v162 : FVec Ideal S8x16x8 .f32) (b h : Fin 8) (g : Fin 4) (q n : Fin 2048) : EReal :=
  Scalar.select (IntOp.cmpi CmpIPredicate.sle (BitVec.ofNat 32 n.val) (BitVec.ofNat 32 q.val))
    (Ideal.ofBits .f32 1112014848#32 * Ideal.tanh (v160 (ix5 b h g q n) * v162 (ix3 b ⟨n.val / 128, by omega⟩ h) * Named.named (F := Ideal) κ "inv_softcap" (φ := .f32) 1017370378#32))
    (Ideal.ofBits .f32 4286578688#32)
theorem pay23_at (v160 : FVec Ideal S8x8x4x2048x2048 .f32) (v162 : FVec Ideal S8x16x8 .f32) (b h : Fin 8) (g : Fin 4) (q n : Fin 2048) :
    k0_pay23 v160 (k0_pay22 v162) (ix5 b h g q n) = Ideal.exp (scoreR v160 v162 b h g q n - Finset.fold max (Ideal.ofBits .f32 4286578688#32) (scoreR v160 v162 b h g q) Finset.univ) := by
  pointwise [k0_pay23, k0_pay22]
  rfl

/-- Which block of 128 an index is in, and where in it. -/
abbrev hiN (n : Fin 2048) : Fin 16 := ⟨n.val / 128, by omega⟩
abbrev loN (n : Fin 2048) : Fin 128 := ⟨n.val % 128, by omega⟩
abbrev hi32 (n : Fin 4096) : Fin 32 := ⟨n.val / 128, by omega⟩
abbrev lo32 (n : Fin 4096) : Fin 128 := ⟨n.val % 128, by omega⟩
abbrev hi8 (n : Fin 1024) : Fin 8 := ⟨n.val / 128, by omega⟩
abbrev lo8 (n : Fin 1024) : Fin 128 := ⟨n.val % 128, by omega⟩
/-- Which group of four heads a column is in. -/
abbrev kvH (n : Fin 4096) : Fin 8 := ⟨n.val / 512, by omega⟩

section Y
variable (x0 : Vec Ideal S8x2048x4096 .bf16) (x1 x2 : Vec Ideal S8x2048x1024 .bf16)
  (v33 : FVec Ideal S8x16x32 .f32) (v46 : FVec Ideal S8x2048x4096 .fp8e4m3) (v90 v134 : FVec Ideal S8x2048x1024 .fp8e4m3) (v77 v121 : FVec Ideal S8x16x8 .f32)
  (h33 : ∀ b n h, v33 (ix3 b n h) = scE (tq x0 b n h))
  (h77 : ∀ b n h, v77 (ix3 b n h) = scE (tk x1 b n h))
  (h121 : ∀ b n h, v121 (ix3 b n h) = scE (tk x2 b n h))
  (h46 : ∀ (b : Fin 8) (n : Fin 2048) (h : Fin 4096), v46 (ix3 b n h) = cd (tq x0 b (hiN n) (hi32 h)) (loN n) (lo32 h))
  (h90 : ∀ (b : Fin 8) (n : Fin 2048) (h : Fin 1024), v90 (ix3 b n h) = cd (tk x1 b (hiN n) (hi8 h)) (loN n) (lo8 h))
  (h134 : ∀ (b : Fin 8) (n : Fin 2048) (h : Fin 1024), v134 (ix3 b n h) = cd (tk x2 b (hiN n) (hi8 h)) (loN n) (lo8 h))
  (b h : Fin 8) (g : Fin 4) (q : Fin 2048)

/-- The capped scores of a row, from the arrays. -/
def thA : Fin 2048 → ℝ := thRow (fun k => tk x1 b k h) (tq x0 b ⟨q.val / 128, by omega⟩ ⟨h.val * 4 + g.val, by omega⟩) ⟨q.val % 128, by omega⟩

include h33 h77 h46 h90 in
theorem score_at (n : Fin 2048) : scoreR (k0_pay21 v33 v46 v90) v77 b h g q n = if n.val ≤ q.val then ((50 * thA x0 x1 b h g q n : ℝ) : EReal) else ⊥ := by
  unfold scoreR
  rw [sel_le _ _ n.2 q.2, pay21_at, h33, h77, neg_inf, ofBits_50]
  have hd : (∑ x : Fin 128, v90 (ix3 b n ⟨h.val * 128 + x.val, by omega⟩) * v46 (ix3 b q ⟨h.val * 512 + g.val * 128 + x.val, by omega⟩))
      = (dotR (tk x1 b ⟨n.val / 128, by omega⟩ h) (tq x0 b ⟨q.val / 128, by omega⟩ ⟨h.val * 4 + g.val, by omega⟩) ⟨n.val % 128, by omega⟩ ⟨q.val % 128, by omega⟩ : EReal) := by
    rw [← dotR_eq]
    refine Finset.sum_congr rfl fun x _ => ?_
    rw [h90, h46]
    have e1 : (⟨(h.val * 128 + x.val) / 128, by omega⟩ : Fin 8) = h := Fin.ext (by show (h.val * 128 + x.val) / 128 = h.val; omega)
    have e2 : (⟨(h.val * 128 + x.val) % 128, by omega⟩ : Fin 128) = x := Fin.ext (by show (h.val * 128 + x.val) % 128 = x.val; omega)
    have e3 : (⟨(h.val * 512 + g.val * 128 + x.val) / 128, by omega⟩ : Fin 32) = ⟨h.val * 4 + g.val, by omega⟩ := Fin.ext (by show (h.val * 512 + g.val * 128 + x.val) / 128 = h.val * 4 + g.val; omega)
    have e4 : (⟨(h.val * 512 + g.val * 128 + x.val) % 128, by omega⟩ : Fin 128) = x := Fin.ext (by show (h.val * 512 + g.val * 128 + x.val) % 128 = x.val; omega)
    show cd (tk x1 b _ ⟨(h.val * 128 + x.val) / 128, _⟩) _ ⟨(h.val * 128 + x.val) % 128, _⟩ * cd (tq x0 b _ ⟨(h.val * 512 + g.val * 128 + x.val) / 128, _⟩) _ ⟨(h.val * 512 + g.val * 128 + x.val) % 128, _⟩ = _
    rw [e1, e2, e3, e4]
  rw [hd]
  have hs : Named.named (F := Ideal) κ "sm_scale" (φ := .f32) 1035273459#32 = (((Real.sqrt 128)⁻¹ : ℝ) : EReal) := rfl
  have hi : Named.named (F := Ideal) κ "inv_softcap" (φ := .f32) 1017370378#32 = (((1 / 50 : ℝ)) : EReal) := rfl
  rw [hs, hi]
  unfold scE
  rw [← EReal.coe_mul, ← EReal.coe_mul, ← EReal.coe_mul, ← EReal.coe_mul, Ideal.tanh_coe, ← EReal.coe_mul]
  have e : thA x0 x1 b h g q n = Real.tanh (dotR (tk x1 b ⟨n.val / 128, by omega⟩ h) (tq x0 b ⟨q.val / 128, by omega⟩ ⟨h.val * 4 + g.val, by omega⟩) ⟨n.val % 128, by omega⟩ ⟨q.val % 128, by omega⟩
      * (scR (tq x0 b ⟨q.val / 128, by omega⟩ ⟨h.val * 4 + g.val, by omega⟩) * (Real.sqrt 128)⁻¹) * scR (tk x1 b ⟨n.val / 128, by omega⟩ h) * (1 / 50)) := by
    unfold thA thRow rawR
    congr 1
    ring
  rw [e]

include h33 h77 h46 h90 in
theorem pr_at (n : Fin 2048) : k0_pay23 (k0_pay21 v33 v46 v90) (k0_pay22 v77) (ix5 b h g q n) = (prR (thA x0 x1 b h g q) q n : EReal) := by
  rw [pay23_at, neg_inf]
  exact ref_pr _ _ _ (score_at x0 x1 v33 v46 v90 v77 h33 h77 h46 h90 b h g q) n

include h33 h77 h46 h90 in
theorem pe_at : k0_pay25 (k0_pay21 v33 v46 v90) (k0_pay22 v77) (ix4 b h g q) = pe := by
  rw [pay25_eq, expP_at, maxP_at, neg_inf, ref_amax _ _ _ (pr_at x0 x1 v33 v46 v90 v77 h33 h77 h46 h90 b h g q)]
  rfl

theorem psc_ref : FloatOps.exp2 (F := Ideal) (FloatOps.sitofp .f32 pe) = (psc : EReal) := exp2_int _
theorem psc_inv : FloatOps.exp2 (F := Ideal) (FloatOps.sitofp .f32 (IntOp.subi 0#32 pe)) = ((psc⁻¹ : ℝ) : EReal) := by
  have := pe_range
  rw [exp2_int, neg_toInt pe this.1 this.2]
  unfold psc; rw [zpow_neg]

include h33 h77 h46 h90 h121 h134 in
theorem y_at (n : Fin 2048) (l : Fin 4096) :
    k0_pay1 v121 v134 (k0_pay23 (k0_pay21 v33 v46 v90) (k0_pay22 v77)) (k0_pay24 (k0_pay21 v33 v46 v90) (k0_pay22 v77)) (k0_pay25 (k0_pay21 v33 v46 v90) (k0_pay22 v77)) (ix3 b n l)
      = outY (fun k => tk x1 b k (kvH l)) (fun k => tk x2 b k (kvH l)) (tq x0 b (hiN n) (hi32 l)) (loN n) n (lo32 l) := by
  rw [pay1_eq, outS_at, sumS_at, pe_at x0 x1 v33 v46 v90 v77 h33 h77 h46 h90, psc_ref, pay24_at]
  have el : (⟨l.val / 512 * 4 + l.val / 128 % 4, by omega⟩ : Fin 32) = ⟨l.val / 128, by omega⟩ := Fin.ext (by show l.val / 512 * 4 + l.val / 128 % 4 = l.val / 128; omega)
  have et : thA x0 x1 b ⟨l.val / 512, by omega⟩ ⟨l.val / 128 % 4, by omega⟩ n = thRow (fun k => tk x1 b k ⟨l.val / 512, by omega⟩) (tq x0 b ⟨n.val / 128, by omega⟩ ⟨l.val / 128, by omega⟩) ⟨n.val % 128, by omega⟩ := by
    unfold thA; rw [← el]
  unfold outY rowY
  rw [← et]
  refine congrArg₂ (· * ·) ?_ (congrArg (Ideal.div _) (Finset.sum_congr rfl fun k _ => pr_at x0 x1 v33 v46 v90 v77 h33 h77 h46 h90 _ _ _ _ k))
  refine Finset.sum_congr rfl fun k _ => ?_
  rw [accS_at, accR_at, h121, pe_at x0 x1 v33 v46 v90 v77 h33 h77 h46 h90, psc_inv]
  refine congrArg (· * _) (Finset.sum_congr rfl fun x _ => ?_)
  rw [pr_at x0 x1 v33 v46 v90 v77 h33 h77 h46 h90, h134, EReal.coe_mul]
  have e1 : (⟨(l.val / 512 * 128 + l.val % 128) / 128, by omega⟩ : Fin 8) = ⟨l.val / 512, by omega⟩ := Fin.ext (by show (l.val / 512 * 128 + l.val % 128) / 128 = l.val / 512; omega)
  have e2 : (⟨(l.val / 512 * 128 + l.val % 128) % 128, by omega⟩ : Fin 128) = ⟨l.val % 128, by omega⟩ := Fin.ext (by show (l.val / 512 * 128 + l.val % 128) % 128 = l.val % 128; omega)
  show cd (tk x2 b _ ⟨(l.val / 512 * 128 + l.val % 128) / 128, _⟩) _ ⟨(l.val / 512 * 128 + l.val % 128) % 128, _⟩ * _ = _
  rw [e1, e2]
end Y
end Cert.ReferenceIdeal.Math
end
-- ==== Proof.Math.ResultY.lean ====
module

public import proofs.«01_k».proof.Proof.Math.Results
public import proofs.«01_k».proof.Proof.Math.KerRow
public import proofs.«01_k».proof.Proof.Math.RefY

@[expose] public section

set_option maxRecDepth 16384

noncomputable section

namespace Cert.Math

open Idealize.ShloMosaic Idealize.ShloMosaic.TcCoe
open Cert.KernelIdeal (S1x128x4096 S1x128x1024 S1x128x128 S1x128 S1x512 nD τ sig cfg0 grid0)
open Cert.KernelIdeal.Gen (iblk)
open Cert.KernelIdeal.Strong (code3 code4 codeT4 row512 cqr xt ut asm32 asmQ asmC asmK asmR qt ct kt row hY hOut maskD ib ib_co bt yBlk yOf KS VS KR VR kt_asmK row_asmR)
open Cert.KernelIdeal.Math Cert.ReferenceIdeal.Math
open Cert.ReferenceIdeal (S8x2048x4096 S8x2048x1024)

theorem ix2'_strong (b : Fin 128) : Cert.KernelIdeal.Strong.ix2' b = ix2 0 b := by
  funext x; match x with
  | ⟨0, _⟩ => rfl
  | ⟨1, _⟩ => rfl

/-- A row of a head group's queries, and its scale, from the heads' tiles. -/
theorem qt_asmQ (P : Fin 32 → Vec Ideal S1x128x128 .fp8e4m3) (j : Fin 8) (c : Fin 512) (d : Fin 128) (h : Fin 32) (r : Fin 128)
    (hh : 4 * j.val + c.val / 128 = h.val) (hr : c.val % 128 = r.val) : qt (asmQ P) j (ix3 0 c d) = P h (ix3 0 r d) := by
  have hp : ∀ (a a' : Fin 32) (z z' : S1x128x128.Idx), a = a' → z = z' → P a z = P a' z' := by
    rintro _ _ _ _ rfl rfl; rfl
  refine hp _ _ _ _ (Fin.ext ?_) (Eq.trans ?_ (ix3_strong r d))
  · show 4 * (j.val + 1 * 0) + (0 + 1 * c.val) / 128 = h.val
    rw [← hh]; congr 2 <;> omega
  · exact congrArg₂ Cert.KernelIdeal.Strong.ix3 (Fin.ext (by show (0 + 1 * c.val) % 128 = r.val; rw [← hr]; congr 1; omega)) (Fin.ext (by show 0 + 1 * d.val = d.val; omega))
theorem ct_asmC (P : Fin 32 → Vec Ideal S1x128 .f32) (j : Fin 8) (c : Fin 512) (h : Fin 32) (r : Fin 128)
    (hh : 4 * j.val + c.val / 128 = h.val) (hr : c.val % 128 = r.val) : ct (asmC P) j (ix2 0 c) = P h (ix2 0 r) := by
  have hp : ∀ (a a' : Fin 32) (z z' : S1x128.Idx), a = a' → z = z' → P a z = P a' z' := by
    rintro _ _ _ _ rfl rfl; rfl
  refine hp _ _ _ _ (Fin.ext ?_) (Eq.trans ?_ (ix2'_strong r))
  · show 4 * (j.val + 1 * 0) + (0 + 1 * c.val) / 128 = h.val
    rw [← hh]; congr 2 <;> omega
  · exact congrArg Cert.KernelIdeal.Strong.ix2' (Fin.ext (by show (0 + 1 * c.val) % 128 = r.val; rw [← hr]; congr 1; omega))

variable (m : (ℓ : Loc nD τ sig) → Buf (Elt Ideal) ℓ) (c : Dev nD)

theorem bt_B (t : Fin cfg0.N) (kb : Fin 16) : tB (bt t kb) = tB t :=
  Fin.ext (by show (16 * (t.val / 16) + kb.val) / 16 = t.val / 16; omega)
theorem bt_N (t : Fin cfg0.N) (kb : Fin 16) : tN (bt t kb) = kb :=
  Fin.ext (by show (16 * (t.val / 16) + kb.val) % 16 = kb.val; omega)

/-- The attention output's block, entry by entry. -/
theorem yBlk_at (t : Fin cfg0.N) (z : Fin 1) (r : Fin 128) (l : Fin 4096) :
    yBlk m c t (ix3 z r l) = outY (fun k => tk (aK m c) (tB t) k ⟨l.val / 512, by omega⟩) (fun k => tk (aV m c) (tB t) k ⟨l.val / 512, by omega⟩)
      (tq (aQ m c) (tB t) (tN t) ⟨l.val / 128, by omega⟩) r (gRow t r) ⟨l.val % 128, by omega⟩ := by
  show hY _ _ _ _ _ _ maskD _ ⟨l.val / 128 / 4, _⟩ ⟨l.val / 128 % 4, _⟩ (Cert.KernelIdeal.Strong.ix3 r ⟨l.val % 128, _⟩) = _
  rw [ix3_strong, hY_at]
  have ej : (⟨l.val / 128 / 4, by omega⟩ : Fin 8) = ⟨l.val / 512, by omega⟩ := Fin.ext (by show l.val / 128 / 4 = l.val / 512; omega)
  rw [ej]
  have hib := ib_co t
  have hcr : (128 * (l.val / 128 % 4) + r.val) % 128 = r.val := by omega
  have hch : 4 * (l.val / 512) + (128 * (l.val / 128 % 4) + r.val) / 128 = l.val / 128 := by omega
  refine hOut_at _ _ _ _ _ _ _ _ _ _ _ _ _ _ hcr ?_ (fun d => ?_) ?_ (fun kb s d => ?_) (fun kb => ?_) (fun kb d s => ?_) (fun kb => ?_) _
  · rw [hib]; rfl
  · rw [qt_asmQ _ _ _ _ ⟨l.val / 128, by omega⟩ r hch hcr, code3_at, tile_q]
  · rw [ct_asmC _ _ _ ⟨l.val / 128, by omega⟩ r hch hcr, cqr_at, tile_q, named_cap]
  · unfold KS; rw [kt_asmK, code4_at, tile_k, bt_B, bt_N]
  · unfold KR; rw [row_asmR, row512_at, tile_k, bt_B, bt_N]
  · unfold VS; rw [kt_asmK, codeT4_at, tile_v, bt_B, bt_N]
  · unfold VR; rw [row_asmR, row512_at, tile_v, bt_B, bt_N]

theorem res3 : (Cert.KernelIdeal.Strong.dats m 0 c).arrAt 3 cfg0.N = Cert.ReferenceIdeal.RefRun.G3 (aQ m c) (aK m c) (aV m c) := by
  refine Cert.KernelIdeal.Strong.final3 m c _ fun t j => ?_
  have e : ((cfg0.win 3).blk t).view.emb j = ix3 (tB t) (gRow t (j 1)) (j 2) := funext fun a =>
    Fin.ext ((Cert.KernelIdeal.Strong.emb3 t j a).trans (by match a with | ⟨0, _⟩ => rfl | ⟨1, _⟩ => rfl | ⟨2, _⟩ => rfl))
  rw [e]
  have ej : j = ix3 (j 0) (j 1) (j 2) := eq_ix3 j
  refine (congrArg (yBlk m c t) ej).trans ((yBlk_at m c t _ _ _).trans ?_)
  unfold Cert.ReferenceIdeal.RefRun.G3 Cert.ReferenceIdeal.Gen.k0_pay33 Cert.ReferenceIdeal.Gen.k0_pay34
  refine Eq.trans ?_ (y_at (aQ m c) (aK m c) (aV m c) _ _ _ _ _ _ (fun b n h => ?_) (fun b n h => ?_) (fun b n h => ?_) (fun b n h => ?_) (fun b n h => ?_) (fun b n h => ?_) _ _ _).symm
  · have key : ∀ (r : Fin 128) (l : Fin 4096), outY (fun k => tk (aK m c) (tB t) k ⟨l.val / 512, by omega⟩) (fun k => tk (aV m c) (tB t) k ⟨l.val / 512, by omega⟩)
        (tq (aQ m c) (tB t) (tN t) ⟨l.val / 128, by omega⟩) r (gRow t r) ⟨l.val % 128, by omega⟩
        = outY (fun k => tk (aK m c) (tB t) k ⟨l.val / 512, by omega⟩) (fun k => tk (aV m c) (tB t) k ⟨l.val / 512, by omega⟩)
        (tq (aQ m c) (tB t) ⟨(gRow t r).val / 128, by omega⟩ ⟨l.val / 128, by omega⟩) ⟨(gRow t r).val % 128, by omega⟩ (gRow t r) ⟨l.val % 128, by omega⟩ := by
      intro r l; rw [gRow_div, gRow_mod]
    exact key (j 1) (j 2)
  · exact (congrFun (congrArg Cert.ReferenceIdeal.Gen.k0_pay4 (ld_whole _)) _).trans (pay4_at _ b n h)
  · exact (congrFun (congrArg Cert.ReferenceIdeal.Gen.k0_pay9 (ld_whole' _)) _).trans (pay9_at _ b n h)
  · exact (congrFun (congrArg Cert.ReferenceIdeal.Gen.k0_pay14 (ld_whole' _)) _).trans (pay14_at _ b n h)
  · refine Eq.trans ?_ (pay6_at _ b n h)
    unfold Cert.ReferenceIdeal.Gen.k0_pay27
    rw [ld_whole]
  · refine Eq.trans ?_ (Cert.ReferenceIdeal.Math.pay11_at _ b n h)
    unfold Cert.ReferenceIdeal.Gen.k0_pay29
    rw [ld_whole']
  · refine Eq.trans ?_ (Cert.ReferenceIdeal.Math.pay17_at _ b n h)
    unfold Cert.ReferenceIdeal.Gen.k0_pay31 Cert.ReferenceIdeal.Gen.k0_pay32
    rw [ld_whole']

end Cert.Math
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Weak.Run
public import proofs.«01_k».proof.Proof.WeakP.Run
public import proofs.«01_k».proof.Proof.Math.ResultY

@[expose] public section

noncomputable section

namespace Cert.Proof

open Idealize.ShloMosaic Idealize.ShloMosaic.TcCoe Idealize.SL.Sem Cert.Math

/-- The ideal kernel and the reference leave the same seven arrays. -/
theorem algebraic : Cert.algebraic_KernelIdeal_ReferenceIdeal (hKernelIdeal := Cert.KernelIdeal.Gen.facts) (hReferenceIdeal := Cert.ReferenceIdeal.Gen.facts) := by
  intro m ρ m' ρ' _ hm
  refine ⟨fun c => Cert.ReferenceIdeal.RefRun.G3 (aQ m c) (aK m c) (aV m c), fun c => Cert.ReferenceIdeal.RefRun.G4 (aQ m c) (aK m c) (aV m c),
    fun c => Cert.ReferenceIdeal.RefRun.G5 (aQ m c) (aK m c) (aV m c), fun c => Cert.ReferenceIdeal.RefRun.G6 (aQ m c) (aK m c) (aV m c),
    fun c => Cert.ReferenceIdeal.RefRun.G7 (aQ m c) (aK m c) (aV m c), fun c => Cert.ReferenceIdeal.RefRun.G8 (aQ m c) (aK m c) (aV m c),
    fun c => Cert.ReferenceIdeal.RefRun.G9 (aQ m c) (aK m c) (aV m c), ?_, ?_⟩
  · refine (θ_run _ _ _).mono (fun r h c => ?_) (Cert.KernelIdeal.Strong.run m ρ)
    obtain ⟨h3, h4, h5, h6, h7, h8, h9, k0, k1, k2⟩ := h c
    exact ⟨h3.trans (res3 m c), h4.trans (res4 m c), h5.trans (res5 m c), h6.trans (res6 m c), h7.trans (res7 m c), h8.trans (res8 m c), h9.trans (res9 m c), k0, k1, k2⟩
  · refine (θ_run _ _ _).mono (fun r h c => ?_) (Cert.ReferenceIdeal.RefRun.run m' ρ')
    obtain ⟨h3, h4, h5, h6, h7, h8, h9, k0, k1, k2⟩ := h c
    obtain ⟨e0, e1, e2⟩ := hm c
    rw [e0, e1, e2] at h3 h4 h5 h6 h7 h8 h9
    exact ⟨h3, h4, h5, h6, h7, h8, h9, k0, k1, k2⟩

/-- Everything the certificate states. -/
theorem claim : Cert.Claim := ⟨Cert.Kernel.Gen.facts, Cert.KernelIdeal.Gen.facts, Cert.ReferenceIdeal.Gen.facts,
  fun m ρ _ => Cert.Kernel.Weak.frame m ρ,
  fun m ρ _ => Cert.KernelIdeal.Weak.frame m ρ,
  fun m ρ _ => Cert.ReferenceIdeal.Gen.frame m ρ,
  ⟨IdealRules.named_const.statement Cert.KernelIdeal.κ "cap_scale" .f32 0x3AE7B46A#32 _ rfl,
   IdealRules.named_const.statement Cert.KernelIdeal.κ "exp2_gain" .f32 0x429044FE#32 _ rfl⟩,
  algebraic⟩

end Cert.Proof

end
